-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x640x16384 : Shape := ⟨3, ![6, 640, 16384]⟩
abbrev S8192x5120 : Shape := ⟨2, ![8192, 5120]⟩
abbrev S256x5120 : Shape := ⟨2, ![256, 5120]⟩
abbrev S7x16384x16 : Shape := ⟨3, ![7, 16384, 16]⟩
abbrev S7x16x5120 : Shape := ⟨3, ![7, 16, 5120]⟩
abbrev S6x640 : Shape := ⟨2, ![6, 640]⟩
abbrev S3840x16384 : Shape := ⟨2, ![3840, 16384]⟩
abbrev S7x16x16384 : Shape := ⟨3, ![7, 16, 16384]⟩
abbrev S112x16384 : Shape := ⟨2, ![112, 16384]⟩
abbrev S112x5120 : Shape := ⟨2, ![112, 5120]⟩
abbrev S3840x1 : Shape := ⟨2, ![3840, 1]⟩
abbrev S3840x5120 : Shape := ⟨2, ![3840, 5120]⟩
abbrev S768x2048 : Shape := ⟨2, ![768, 2048]⟩
abbrev S1024x512 : Shape := ⟨2, ![1024, 512]⟩
abbrev S256x512 : Shape := ⟨2, ![256, 512]⟩
abbrev S112x2048 : Shape := ⟨2, ![112, 2048]⟩
abbrev S112x512 : Shape := ⟨2, ![112, 512]⟩
abbrev S768x1 : Shape := ⟨2, ![768, 1]⟩
abbrev S768x512 : Shape := ⟨2, ![768, 512]⟩
abbrev S16384x512 : Shape := ⟨2, ![16384, 512]⟩
abbrev S3840x128 : Shape := ⟨2, ![3840, 128]⟩
abbrev S1x512 : Shape := ⟨2, ![1, 512]⟩
abbrev S32x512 : Shape := ⟨2, ![32, 512]⟩
abbrev S64x512 : Shape := ⟨2, ![64, 512]⟩
abbrev S2048x512 : Shape := ⟨2, ![2048, 512]⟩
abbrev S768x128 : Shape := ⟨2, ![768, 128]⟩
abbrev S768x112 : Shape := ⟨2, ![768, 112]⟩
abbrev S6x640x5120 : Shape := ⟨3, ![6, 640, 5120]⟩

abbrev nBuf : Space → Nat
  | .hbm => 13
  | .vmem => 17
  | .smem => 0
  | _ => 0

abbrev bufTy : (tb : Table) → Fin (tcTables nBuf tb) → BufTy
  | .hbm, ⟨0, _⟩ => ⟨S6x640x16384, .bf16⟩
  | .hbm, ⟨1, _⟩ => ⟨S8192x5120, .i8⟩
  | .hbm, ⟨2, _⟩ => ⟨S256x5120, .f32⟩
  | .hbm, ⟨3, _⟩ => ⟨S7x16384x16, .bf16⟩
  | .hbm, ⟨4, _⟩ => ⟨S7x16x5120, .bf16⟩
  | .hbm, ⟨5, _⟩ => ⟨S6x640, .i32⟩
  | .hbm, ⟨6, _⟩ => ⟨S3840x16384, .bf16⟩
  | .hbm, ⟨7, _⟩ => ⟨S7x16x16384, .bf16⟩
  | .hbm, ⟨8, _⟩ => ⟨S112x16384, .bf16⟩
  | .hbm, ⟨9, _⟩ => ⟨S112x5120, .bf16⟩
  | .hbm, ⟨10, _⟩ => ⟨S3840x1, .i32⟩
  | .hbm, ⟨11, _⟩ => ⟨S3840x5120, .bf16⟩
  | .hbm, ⟨12, _⟩ => ⟨S6x640x5120, .bf16⟩
  | .local _ .vmem, ⟨0, _⟩ => ⟨S768x2048, .bf16⟩
  | .local _ .vmem, ⟨1, _⟩ => ⟨S768x2048, .bf16⟩
  | .local _ .vmem, ⟨2, _⟩ => ⟨S1024x512, .i8⟩
  | .local _ .vmem, ⟨3, _⟩ => ⟨S1024x512, .i8⟩
  | .local _ .vmem, ⟨4, _⟩ => ⟨S256x512, .f32⟩
  | .local _ .vmem, ⟨5, _⟩ => ⟨S256x512, .f32⟩
  | .local _ .vmem, ⟨6, _⟩ => ⟨S112x2048, .bf16⟩
  | .local _ .vmem, ⟨7, _⟩ => ⟨S112x2048, .bf16⟩
  | .local _ .vmem, ⟨8, _⟩ => ⟨S112x512, .bf16⟩
  | .local _ .vmem, ⟨9, _⟩ => ⟨S112x512, .bf16⟩
  | .local _ .vmem, ⟨10, _⟩ => ⟨S768x1, .i32⟩
  | .local _ .vmem, ⟨11, _⟩ => ⟨S768x1, .i32⟩
  | .local _ .vmem, ⟨12, _⟩ => ⟨S768x512, .bf16⟩
  | .local _ .vmem, ⟨13, _⟩ => ⟨S768x512, .bf16⟩
  | .local _ .vmem, ⟨14, _⟩ => ⟨S16384x512, .bf16⟩
  | .local _ .vmem, ⟨15, _⟩ => ⟨S3840x128, .f32⟩
  | .local _ .vmem, ⟨16, _⟩ => ⟨S768x512, .f32⟩
  | _, _ => ⟨S6x640x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![10, 5, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c32_i32 : BitVec 32 := 32#32
  let v26 : BitVec 32 := Scalar.addi c0_i32_12 c32_i32
  let c1_i32 : BitVec 32 := 1#32
  ⟨c0_i32_12, v26, c1_i32⟩
def k0_off1 (i : grid0.Coords) (k0_t1 : Fin k0_t1_loop.trips) : Fin 2 → Nat :=
  let arg2 : BitVec 32 := BitVec.ofNat 32 (i 2).val
  let c32_i32_14 : BitVec 32 := 32#32
  let v27 : BitVec 32 := Scalar.muli arg2 c32_i32_14
  let c0_i32_12 : BitVec 32 := 0#32
  let c1_i32 : BitVec 32 := 1#32
  let arg13 : BitVec 32 := Scf.iv c0_i32_12 c1_i32 k0_t1
  let v28 : BitVec 32 := Scalar.addi v27 arg13
  let v29 : Index := Scalar.indexCast v28
  let c0_15 : Index := 0#32
  ![v29.toNat, 0]
def k0_mult1 (i : grid0.Coords) (k0_t1 : Fin k0_t1_loop.trips) : BitVec 32 :=
  let arg2 : BitVec 32 := BitVec.ofNat 32 (i 2).val
  let c32_i32_14 : BitVec 32 := 32#32
  let v27 : BitVec 32 := Scalar.muli arg2 c32_i32_14
  let c0_i32_12 : BitVec 32 := 0#32
  let c1_i32 : BitVec 32 := 1#32
  let arg13 : BitVec 32 := Scf.iv c0_i32_12 c1_i32 k0_t1
  let v28 : BitVec 32 := Scalar.addi v27 arg13
  let c64_i32 : BitVec 32 := 64#32
  let v32 : BitVec 32 := Scalar.muli v28 c64_i32
  v32
def k0_mult2 (k0_t1 : Fin k0_t1_loop.trips) : BitVec 32 :=
  let c0_i32_12 : BitVec 32 := 0#32
  let c1_i32 : BitVec 32 := 1#32
  let arg13 : BitVec 32 := Scf.iv c0_i32_12 c1_i32 k0_t1
  let c32_i32_16 : BitVec 32 := 32#32
  let v34 : BitVec 32 := Scalar.muli arg13 c32_i32_16
  v34
def k0_off2 (k0_t1 : Fin k0_t1_loop.trips) : Fin 2 → Nat :=
  let c0_i32_12 : BitVec 32 := 0#32
  let c1_i32 : BitVec 32 := 1#32
  let arg13 : BitVec 32 := Scf.iv c0_i32_12 c1_i32 k0_t1
  let c32_i32_16 : BitVec 32 := 32#32
  let v34 : BitVec 32 := Scalar.muli arg13 c32_i32_16
  let v35 : BitVec 32 := v34
  let v36 : Index := Scalar.indexCast v35
  let c0_17 : Index := 0#32
  ![v36.toNat, 0]
def k0_off3 (i : grid0.Coords) (k0_t1 : Fin k0_t1_loop.trips) : Fin 2 → Nat :=
  let arg2 : BitVec 32 := BitVec.ofNat 32 (i 2).val
  let c32_i32_14 : BitVec 32 := 32#32
  let v27 : BitVec 32 := Scalar.muli arg2 c32_i32_14
  let c0_i32_12 : BitVec 32 := 0#32
  let c1_i32 : BitVec 32 := 1#32
  let arg13 : BitVec 32 := Scf.iv c0_i32_12 c1_i32 k0_t1
  let v28 : BitVec 32 := Scalar.addi v27 arg13
  let c64_i32 : BitVec 32 := 64#32
  let v32 : BitVec 32 := Scalar.muli v28 c64_i32
  let v33 : BitVec 32 := v32
  let v94 : Index := Scalar.indexCast v33
  let c0_37 : Index := 0#32
  ![v94.toNat, 0]
def k0_mult3 (i : grid0.Coords) : BitVec 32 :=
  let arg2 : BitVec 32 := BitVec.ofNat 32 (i 2).val
  let c2048_i32 : BitVec 32 := 2048#32
  let v3 : BitVec 32 := Scalar.muli arg2 c2048_i32
  v3
def k0_mult4 (i : grid0.Coords) : BitVec 32 :=
  let arg1 : BitVec 32 := BitVec.ofNat 32 (i 1).val
  let c768_i32 : BitVec 32 := 768#32
  let v5 : BitVec 32 := Scalar.muli arg1 c768_i32
  v5
def k0_off4 (i : grid0.Coords) : Fin 2 → Nat :=
  let arg2 : BitVec 32 := BitVec.ofNat 32 (i 2).val
  let c2048_i32 : BitVec 32 := 2048#32
  let v3 : BitVec 32 := Scalar.muli arg2 c2048_i32
  let v4 : BitVec 32 := v3
  let v13 : Index := Scalar.indexCast v4
  let c0_6 : Index := 0#32
  ![v13.toNat, 0]
def k0_cond3 (i : grid0.Coords) : BitVec 1 :=
  let arg0 : BitVec 32 := BitVec.ofNat 32 (i 0).val
  let c0_i32_9 : BitVec 32 := 0#32
  let v20 : BitVec 1 := Scalar.cmpi .eq arg0 c0_i32_9
  let v21 : BitVec 32 := Scalar.extui v20
  let c0_i32_10 : BitVec 32 := 0#32
  let v22 : BitVec 1 := Scalar.cmpi .ne v21 c0_i32_10
  v22

def k0_cond4 (i : grid0.Coords) : BitVec 1 :=
  let arg2 : BitVec 32 := BitVec.ofNat 32 (i 2).val
  let c0_i32_12 : BitVec 32 := 0#32
  let v26 : BitVec 1 := Scalar.cmpi .eq arg2 c0_i32_12
  let v27 : BitVec 32 := Scalar.extui v26
  let c0_i32_13 : BitVec 32 := 0#32
  let v28 : BitVec 1 := Scalar.cmpi .ne v27 c0_i32_13
  v28

def k0_off5 (i : grid0.Coords) : Fin 2 → Nat :=
  let arg1 : BitVec 32 := BitVec.ofNat 32 (i 1).val
  let c768_i32 : BitVec 32 := 768#32
  let v5 : BitVec 32 := Scalar.muli arg1 c768_i32
  let v6 : BitVec 32 := v5
  let v42 : Index := Scalar.indexCast v6
  let c0_22 : Index := 0#32
  ![v42.toNat, 0]
def k0_off6 (i : grid0.Coords) : Fin 2 → Nat :=
  let arg1 : BitVec 32 := BitVec.ofNat 32 (i 1).val
  let c768_i32 : BitVec 32 := 768#32
  let v5 : BitVec 32 := Scalar.muli arg1 c768_i32
  let v6 : BitVec 32 := v5
  let v29 : Index := Scalar.indexCast v6
  let c0_14 : Index := 0#32
  ![v29.toNat, 0]
def k0_cond5 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def k0_off7 (i : grid0.Coords) : Fin 2 → Nat :=
  let arg1 : BitVec 32 := BitVec.ofNat 32 (i 1).val
  let c768_i32 : BitVec 32 := 768#32
  let v5 : BitVec 32 := Scalar.muli arg1 c768_i32
  let v6 : BitVec 32 := v5
  let v55 : Index := Scalar.indexCast v6
  let c0_19 : Index := 0#32
  ![v55.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c7_i32 : BitVec 32 := 7#32
  let v1 : BitVec 32 := Scalar.select v0 arg2 c7_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S112x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S112x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S6x640x16384 : Shape := ⟨3, ![6, 640, 16384]⟩
abbrev S8192x5120 : Shape := ⟨2, ![8192, 5120]⟩
abbrev S256x5120 : Shape := ⟨2, ![256, 5120]⟩
abbrev S7x16384x16 : Shape := ⟨3, ![7, 16384, 16]⟩
abbrev S7x16x5120 : Shape := ⟨3, ![7, 16, 5120]⟩
abbrev S6x640 : Shape := ⟨2, ![6, 640]⟩
abbrev S256x32x5120 : Shape := ⟨3, ![256, 32, 5120]⟩
abbrev S_ : Shape := ⟨0, ![]⟩
abbrev S6x640x8192 : Shape := ⟨3, ![6, 640, 8192]⟩
abbrev S6x640x5120 : Shape := ⟨3, ![6, 640, 5120]⟩
abbrev S6x640x7x16 : Shape := ⟨4, ![6, 640, 7, 16]⟩
abbrev S6x640x1 : Shape := ⟨3, ![6, 640, 1]⟩
abbrev S7 : Shape := ⟨1, ![7]⟩
abbrev S1x1x7 : Shape := ⟨3, ![1, 1, 7]⟩
abbrev S6x640x7 : Shape := ⟨3, ![6, 640, 7]⟩
abbrev S6x640x7x1 : Shape := ⟨4, ![6, 640, 7, 1]⟩

abbrev nBuf : Space → Nat
  | .hbm => 184
  | .vmem => 0
  | .smem => 0
  | _ => 0

abbrev hbmTy0_0 (i : Nat) : BufTy := match i % 128 with
  | 0 => ⟨S6x640x16384, .bf16⟩
  | 1 => ⟨S8192x5120, .i8⟩
  | 2 => ⟨S256x5120, .f32⟩
  | 3 => ⟨S7x16384x16, .bf16⟩
  | 4 => ⟨S7x16x5120, .bf16⟩
  | 5 => ⟨S6x640, .i32⟩
  | 6 => ⟨S256x5120, .bf16⟩
  | 7 => ⟨S256x32x5120, .bf16⟩
  | 8 => ⟨S8192x5120, .bf16⟩
  | 9 => ⟨S8192x5120, .i32⟩
  | 10 => ⟨S_, .i32⟩
  | 11 => ⟨S8192x5120, .i32⟩
  | 12 => ⟨S8192x5120, .i32⟩
  | 13 => ⟨S_, .i32⟩
  | 14 => ⟨S8192x5120, .i32⟩
  | 15 => ⟨S8192x5120, .i32⟩
  | 16 => ⟨S_, .i32⟩
  | 17 => ⟨S8192x5120, .i32⟩
  | 18 => ⟨S8192x5120, .i1⟩
  | 19 => ⟨S_, .i32⟩
  | 20 => ⟨S8192x5120, .i32⟩
  | 21 => ⟨S8192x5120, .i32⟩
  | 22 => ⟨S_, .i32⟩
  | 23 => ⟨S8192x5120, .i32⟩
  | 24 => ⟨S8192x5120, .i1⟩
  | 25 => ⟨S_, .i32⟩
  | 26 => ⟨S8192x5120, .i32⟩
  | 27 => ⟨S8192x5120, .i32⟩
  | 28 => ⟨S_, .i32⟩
  | 29 => ⟨S8192x5120, .i32⟩
  | 30 => ⟨S8192x5120, .i1⟩
  | 31 => ⟨S_, .i32⟩
  | 32 => ⟨S8192x5120, .i32⟩
  | 33 => ⟨S8192x5120, .i32⟩
  | 34 => ⟨S_, .i32⟩
  | 35 => ⟨S8192x5120, .i32⟩
  | 36 => ⟨S8192x5120, .i1⟩
  | 37 => ⟨S_, .bf16⟩
  | 38 => ⟨S_, .bf16⟩
  | 39 => ⟨S8192x5120, .bf16⟩
  | 40 => ⟨S8192x5120, .bf16⟩
  | 41 => ⟨S8192x5120, .bf16⟩
  | 42 => ⟨S_, .bf16⟩
  | 43 => ⟨S_, .bf16⟩
  | 44 => ⟨S8192x5120, .bf16⟩
  | 45 => ⟨S8192x5120, .bf16⟩
  | 46 => ⟨S8192x5120, .bf16⟩
  | 47 => ⟨S8192x5120, .bf16⟩
  | 48 => ⟨S_, .bf16⟩
  | 49 => ⟨S_, .bf16⟩
  | 50 => ⟨S8192x5120, .bf16⟩
  | 51 => ⟨S8192x5120, .bf16⟩
  | 52 => ⟨S8192x5120, .bf16⟩
  | 53 => ⟨S_, .bf16⟩
  | 54 => ⟨S_, .bf16⟩
  | 55 => ⟨S8192x5120, .bf16⟩
  | 56 => ⟨S8192x5120, .bf16⟩
  | 57 => ⟨S8192x5120, .bf16⟩
  | 58 => ⟨S8192x5120, .bf16⟩
  | 59 => ⟨S8192x5120, .bf16⟩
  | 60 => ⟨S_, .bf16⟩
  | 61 => ⟨S_, .bf16⟩
  | 62 => ⟨S8192x5120, .bf16⟩
  | 63 => ⟨S8192x5120, .bf16⟩
  | 64 => ⟨S8192x5120, .bf16⟩
  | 65 => ⟨S_, .bf16⟩
  | 66 => ⟨S_, .bf16⟩
  | 67 => ⟨S8192x5120, .bf16⟩
  | 68 => ⟨S8192x5120, .bf16⟩
  | 69 => ⟨S8192x5120, .bf16⟩
  | 70 => ⟨S8192x5120, .bf16⟩
  | 71 => ⟨S_, .bf16⟩
  | 72 => ⟨S_, .bf16⟩
  | 73 => ⟨S8192x5120, .bf16⟩
  | 74 => ⟨S8192x5120, .bf16⟩
  | 75 => ⟨S8192x5120, .bf16⟩
  | 76 => ⟨S_, .bf16⟩
  | 77 => ⟨S_, .bf16⟩
  | 78 => ⟨S8192x5120, .bf16⟩
  | 79 => ⟨S8192x5120, .bf16⟩
  | 80 => ⟨S8192x5120, .bf16⟩
  | 81 => ⟨S8192x5120, .bf16⟩
  | 82 => ⟨S8192x5120, .bf16⟩
  | 83 => ⟨S8192x5120, .bf16⟩
  | 84 => ⟨S8192x5120, .bf16⟩
  | 85 => ⟨S_, .i32⟩
  | 86 => ⟨S8192x5120, .i32⟩
  | 87 => ⟨S8192x5120, .i32⟩
  | 88 => ⟨S_, .i32⟩
  | 89 => ⟨S8192x5120, .i32⟩
  | 90 => ⟨S8192x5120, .i32⟩
  | 91 => ⟨S_, .i32⟩
  | 92 => ⟨S8192x5120, .i32⟩
  | 93 => ⟨S8192x5120, .i1⟩
  | 94 => ⟨S_, .i32⟩
  | 95 => ⟨S8192x5120, .i32⟩
  | 96 => ⟨S8192x5120, .i32⟩
  | 97 => ⟨S_, .i32⟩
  | 98 => ⟨S8192x5120, .i32⟩
  | 99 => ⟨S8192x5120, .i1⟩
  | 100 => ⟨S_, .i32⟩
  | 101 => ⟨S8192x5120, .i32⟩
  | 102 => ⟨S8192x5120, .i32⟩
  | 103 => ⟨S_, .i32⟩
  | 104 => ⟨S8192x5120, .i32⟩
  | 105 => ⟨S8192x5120, .i1⟩
  | 106 => ⟨S_, .i32⟩
  | 107 => ⟨S8192x5120, .i32⟩
  | 108 => ⟨S8192x5120, .i32⟩
  | 109 => ⟨S_, .i32⟩
  | 110 => ⟨S8192x5120, .i32⟩
  | 111 => ⟨S8192x5120, .i1⟩
  | 112 => ⟨S_, .bf16⟩
  | 113 => ⟨S_, .bf16⟩
  | 114 => ⟨S8192x5120, .bf16⟩
  | 115 => ⟨S8192x5120, .bf16⟩
  | 116 => ⟨S8192x5120, .bf16⟩
  | 117 => ⟨S_, .bf16⟩
  | 118 => ⟨S_, .bf16⟩
  | 119 => ⟨S8192x5120, .bf16⟩
  | 120 => ⟨S8192x5120, .bf16⟩
  | 121 => ⟨S8192x5120, .bf16⟩
  | 122 => ⟨S8192x5120, .bf16⟩
  | 123 => ⟨S_, .bf16⟩
  | 124 => ⟨S_, .bf16⟩
  | 125 => ⟨S8192x5120, .bf16⟩
  | 126 => ⟨S8192x5120, .bf16⟩
  | 127 => ⟨S8192x5120, .bf16⟩
  | _ => ⟨S6x640x16384, .bf16⟩

abbrev hbmTy0_1 (i : Nat) : BufTy := match i % 128 with
  | 0 => ⟨S_, .bf16⟩
  | 1 => ⟨S_, .bf16⟩
  | 2 => ⟨S8192x5120, .bf16⟩
  | 3 => ⟨S8192x5120, .bf16⟩
  | 4 => ⟨S8192x5120, .bf16⟩
  | 5 => ⟨S8192x5120, .bf16⟩
  | 6 => ⟨S8192x5120, .bf16⟩
  | 7 => ⟨S_, .bf16⟩
  | 8 => ⟨S_, .bf16⟩
  | 9 => ⟨S8192x5120, .bf16⟩
  | 10 => ⟨S8192x5120, .bf16⟩
  | 11 => ⟨S8192x5120, .bf16⟩
  | 12 => ⟨S_, .bf16⟩
  | 13 => ⟨S_, .bf16⟩
  | 14 => ⟨S8192x5120, .bf16⟩
  | 15 => ⟨S8192x5120, .bf16⟩
  | 16 => ⟨S8192x5120, .bf16⟩
  | 17 => ⟨S8192x5120, .bf16⟩
  | 18 => ⟨S_, .bf16⟩
  | 19 => ⟨S_, .bf16⟩
  | 20 => ⟨S8192x5120, .bf16⟩
  | 21 => ⟨S8192x5120, .bf16⟩
  | 22 => ⟨S8192x5120, .bf16⟩
  | 23 => ⟨S_, .bf16⟩
  | 24 => ⟨S_, .bf16⟩
  | 25 => ⟨S8192x5120, .bf16⟩
  | 26 => ⟨S8192x5120, .bf16⟩
  | 27 => ⟨S8192x5120, .bf16⟩
  | 28 => ⟨S8192x5120, .bf16⟩
  | 29 => ⟨S8192x5120, .bf16⟩
  | 30 => ⟨S8192x5120, .bf16⟩
  | 31 => ⟨S8192x5120, .bf16⟩
  | 32 => ⟨S6x640x8192, .bf16⟩
  | 33 => ⟨S6x640x5120, .f32⟩
  | 34 => ⟨S6x640x8192, .bf16⟩
  | 35 => ⟨S6x640x5120, .f32⟩
  | 36 => ⟨S6x640x5120, .f32⟩
  | 37 => ⟨S6x640x7x16, .f32⟩
  | 38 => ⟨S6x640x7x16, .bf16⟩
  | 39 => ⟨S6x640x1, .i32⟩
  | 40 => ⟨S7, .i32⟩
  | 41 => ⟨S1x1x7, .i32⟩
  | 42 => ⟨S6x640x7, .i32⟩
  | 43 => ⟨S6x640x7, .i32⟩
  | 44 => ⟨S6x640x7, .i1⟩
  | 45 => ⟨S6x640x7x1, .i1⟩
  | 46 => ⟨S_, .bf16⟩
  | 47 => ⟨S6x640x7x16, .i1⟩
  | 48 => ⟨S6x640x7x16, .bf16⟩
  | 49 => ⟨S6x640x7x16, .bf16⟩
  | 50 => ⟨S6x640x5120, .f32⟩
  | 51 => ⟨S_, .f32⟩
  | 52 => ⟨S6x640x5120, .f32⟩
  | 53 => ⟨S6x640x5120, .f32⟩
  | 54 => ⟨S6x640x5120, .f32⟩
  | 55 => ⟨S6x640x5120, .bf16⟩
  | _ => ⟨S6x640x16384, .bf16⟩

abbrev hbmTy (i : Nat) : BufTy := match i / 128 with
  | 0 => hbmTy0_0 i
  | 1 => hbmTy0_1 i
  | _ => ⟨S6x640x16384, .bf16⟩

abbrev bufTy : (tb : Table) → Fin (tcTables nBuf tb) → BufTy
  | .hbm, ⟨i, _⟩ => hbmTy i
  | _, _ => ⟨S6x640x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_cst_9 : Ref sig .tc := ⟨.hbm, 42, rfl⟩
abbrev main_cst_10 : Ref sig .tc := ⟨.hbm, 43, rfl⟩
abbrev main_call1_v0 : Ref sig .tc := ⟨.hbm, 44, rfl⟩
abbrev main_call1_v1 : Ref sig .tc := ⟨.hbm, 45, rfl⟩
abbrev main_v23 : Ref sig .tc := ⟨.hbm, 46, rfl⟩
abbrev main_v24 : Ref sig .tc := ⟨.hbm, 47, rfl⟩
abbrev main_cst_11 : Ref sig .tc := ⟨.hbm, 48, rfl⟩
abbrev main_cst_12 : Ref sig .tc := ⟨.hbm, 49, rfl⟩
abbrev main_call3_v0 : Ref sig .tc := ⟨.hbm, 50, rfl⟩
abbrev main_call3_v1 : Ref sig .tc := ⟨.hbm, 51, rfl⟩
abbrev main_v25 : Ref sig .tc := ⟨.hbm, 52, rfl⟩
abbrev main_cst_13 : Ref sig .tc := ⟨.hbm, 53, rfl⟩
abbrev main_cst_14 : Ref sig .tc := ⟨.hbm, 54, rfl⟩
abbrev main_call4_v0 : Ref sig .tc := ⟨.hbm, 55, rfl⟩
abbrev main_call4_v1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_15 : Ref sig .tc := ⟨.hbm, 60, rfl⟩
abbrev main_cst_16 : Ref sig .tc := ⟨.hbm, 61, rfl⟩
abbrev main_call7_v0 : Ref sig .tc := ⟨.hbm, 62, rfl⟩
abbrev main_call7_v1 : Ref sig .tc := ⟨.hbm, 63, rfl⟩
abbrev main_v29 : Ref sig .tc := ⟨.hbm, 64, rfl⟩
abbrev main_cst_17 : Ref sig .tc := ⟨.hbm, 65, rfl⟩
abbrev main_cst_18 : Ref sig .tc := ⟨.hbm, 66, rfl⟩
abbrev main_call8_v0 : Ref sig .tc := ⟨.hbm, 67, rfl⟩
abbrev main_call8_v1 : Ref sig .tc := ⟨.hbm, 68, rfl⟩
abbrev main_v30 : Ref sig .tc := ⟨.hbm, 69, rfl⟩
abbrev main_v31 : Ref sig .tc := ⟨.hbm, 70, rfl⟩
abbrev main_cst_19 : Ref sig .tc := ⟨.hbm, 71, rfl⟩
abbrev main_cst_20 : Ref sig .tc := ⟨.hbm, 72, rfl⟩
abbrev main_call10_v0 : Ref sig .tc := ⟨.hbm, 73, rfl⟩
abbrev main_call10_v1 : Ref sig .tc := ⟨.hbm, 74, rfl⟩
abbrev main_v32 : Ref sig .tc := ⟨.hbm, 75, rfl⟩
abbrev main_cst_21 : Ref sig .tc := ⟨.hbm, 76, rfl⟩
abbrev main_cst_22 : Ref sig .tc := ⟨.hbm, 77, rfl⟩
abbrev main_call11_v0 : Ref sig .tc := ⟨.hbm, 78, rfl⟩
abbrev main_call11_v1 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_23 : Ref sig .tc := ⟨.hbm, 85, rfl⟩
abbrev main_v38 : Ref sig .tc := ⟨.hbm, 86, rfl⟩
abbrev main_v39 : Ref sig .tc := ⟨.hbm, 87, rfl⟩
abbrev main_c_24 : Ref sig .tc := ⟨.hbm, 88, rfl⟩
abbrev main_v40 : Ref sig .tc := ⟨.hbm, 89, rfl⟩
abbrev main_v41 : Ref sig .tc := ⟨.hbm, 90, rfl⟩
abbrev main_c_25 : Ref sig .tc := ⟨.hbm, 91, rfl⟩
abbrev main_v42 : Ref sig .tc := ⟨.hbm, 92, rfl⟩
abbrev main_v43 : Ref sig .tc := ⟨.hbm, 93, rfl⟩
abbrev main_c_26 : Ref sig .tc := ⟨.hbm, 94, rfl⟩
abbrev main_v44 : Ref sig .tc := ⟨.hbm, 95, rfl⟩
abbrev main_v45 : Ref sig .tc := ⟨.hbm, 96, rfl⟩
abbrev main_c_27 : Ref sig .tc := ⟨.hbm, 97, rfl⟩
abbrev main_v46 : Ref sig .tc := ⟨.hbm, 98, rfl⟩
abbrev main_v47 : Ref sig .tc := ⟨.hbm, 99, rfl⟩
abbrev main_c_28 : Ref sig .tc := ⟨.hbm, 100, rfl⟩
abbrev main_v48 : Ref sig .tc := ⟨.hbm, 101, rfl⟩
abbrev main_v49 : Ref sig .tc := ⟨.hbm, 102, rfl⟩
abbrev main_c_29 : Ref sig .tc := ⟨.hbm, 103, rfl⟩
abbrev main_v50 : Ref sig .tc := ⟨.hbm, 104, rfl⟩
abbrev main_v51 : Ref sig .tc := ⟨.hbm, 105, rfl⟩
abbrev main_c_30 : Ref sig .tc := ⟨.hbm, 106, rfl⟩
abbrev main_v52 : Ref sig .tc := ⟨.hbm, 107, rfl⟩
abbrev main_v53 : Ref sig .tc := ⟨.hbm, 108, rfl⟩
abbrev main_c_31 : Ref sig .tc := ⟨.hbm, 109, rfl⟩
abbrev main_v54 : Ref sig .tc := ⟨.hbm, 110, rfl⟩
abbrev main_v55 : Ref sig .tc := ⟨.hbm, 111, rfl⟩
abbrev main_cst_32 : Ref sig .tc := ⟨.hbm, 112, rfl⟩
abbrev main_cst_33 : Ref sig .tc := ⟨.hbm, 113, rfl⟩
abbrev main_call15_v0 : Ref sig .tc := ⟨.hbm, 114, rfl⟩
abbrev main_call15_v1 : Ref sig .tc := ⟨.hbm, 115, rfl⟩
abbrev main_v56 : Ref sig .tc := ⟨.hbm, 116, rfl⟩
abbrev main_cst_34 : Ref sig .tc := ⟨.hbm, 117, rfl⟩
abbrev main_cst_35 : Ref sig .tc := ⟨.hbm, 118, rfl⟩
abbrev main_call16_v0 : Ref sig .tc := ⟨.hbm, 119, rfl⟩
abbrev main_call16_v1 : Ref sig .tc := ⟨.hbm, 120, rfl⟩
abbrev main_v57 : Ref sig .tc := ⟨.hbm, 121, rfl⟩
abbrev main_v58 : Ref sig .tc := ⟨.hbm, 122, rfl⟩
abbrev main_cst_36 : Ref sig .tc := ⟨.hbm, 123, rfl⟩
abbrev main_cst_37 : Ref sig .tc := ⟨.hbm, 124, rfl⟩
abbrev main_call18_v0 : Ref sig .tc := ⟨.hbm, 125, rfl⟩
abbrev main_call18_v1 : Ref sig .tc := ⟨.hbm, 126, rfl⟩
abbrev main_v59 : Ref sig .tc := ⟨.hbm, 127, rfl⟩
abbrev main_cst_38 : Ref sig .tc := ⟨.hbm, 128, rfl⟩
abbrev main_cst_39 : Ref sig .tc := ⟨.hbm, 129, rfl⟩
abbrev main_call19_v0 : Ref sig .tc := ⟨.hbm, 130, rfl⟩
abbrev main_call19_v1 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_40 : Ref sig .tc := ⟨.hbm, 135, rfl⟩
abbrev main_cst_41 : Ref sig .tc := ⟨.hbm, 136, rfl⟩
abbrev main_call22_v0 : Ref sig .tc := ⟨.hbm, 137, rfl⟩
abbrev main_call22_v1 : Ref sig .tc := ⟨.hbm, 138, rfl⟩
abbrev main_v63 : Ref sig .tc := ⟨.hbm, 139, rfl⟩
abbrev main_cst_42 : Ref sig .tc := ⟨.hbm, 140, rfl⟩
abbrev main_cst_43 : Ref sig .tc := ⟨.hbm, 141, rfl⟩
abbrev main_call23_v0 : Ref sig .tc := ⟨.hbm, 142, rfl⟩
abbrev main_call23_v1 : Ref sig .tc := ⟨.hbm, 143, rfl⟩
abbrev main_v64 : Ref sig .tc := ⟨.hbm, 144, rfl⟩
abbrev main_v65 : Ref sig .tc := ⟨.hbm, 145, rfl⟩
abbrev main_cst_44 : Ref sig .tc := ⟨.hbm, 146, rfl⟩
abbrev main_cst_45 : Ref sig .tc := ⟨.hbm, 147, rfl⟩
abbrev main_call25_v0 : Ref sig .tc := ⟨.hbm, 148, rfl⟩
abbrev main_call25_v1 : Ref sig .tc := ⟨.hbm, 149, rfl⟩
abbrev main_v66 : Ref sig .tc := ⟨.hbm, 150, rfl⟩
abbrev main_cst_46 : Ref sig .tc := ⟨.hbm, 151, rfl⟩
abbrev main_cst_47 : Ref sig .tc := ⟨.hbm, 152, rfl⟩
abbrev main_call26_v0 : Ref sig .tc := ⟨.hbm, 153, rfl⟩
abbrev main_call26_v1 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_cst_48 : Ref sig .tc := ⟨.hbm, 174, rfl⟩
abbrev main_call30_v0 : Ref sig .tc := ⟨.hbm, 175, rfl⟩
abbrev main_call30_v1 : Ref sig .tc := ⟨.hbm, 176, rfl⟩
abbrev main_v86 : Ref sig .tc := ⟨.hbm, 177, rfl⟩
abbrev main_v87 : Ref sig .tc := ⟨.hbm, 178, rfl⟩
abbrev main_cst_49 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩

abbrev nD : Nat := 1
abbrev τ : Topo := Topo.v7x

variable {F : FTy → Type} [FloatOps F]
-- ==== Proof.DequantLoop.lean ====
/-
  The dequantisation loop of the kernel: thirty-two trips, each of which reads one scale row and thirty-two rows of packed
  codes and stores sixty-four rows of weights into the weight scratch.
-/
module

public import proofs.«01_k».proof.Proof.Gen.KernelIdeal.Loops
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The sixty-four weight rows one trip stores, from the scale block and the packed block. -/
def deqRows (i : grid0.Coords) (h : k0_cond1 i = 1#1) (w : Vec F S1024x512 .i8) (s : Vec F S256x512 .f32)
    (t : Fin k0_t1_loop.trips) : FVec F S64x512 .bf16 :=
  let a : Vec F S1x512 .f32 := VecWindow.window s (k0_off1 i t) S1x512.size (k0_off1_inb i t h)
  let v : Vec F S32x512 .i8 := VecWindow.window w (k0_off2 t) S32x512.size (k0_off2_inb i t h)
  k0_pay1 (k0_pay6 a) (k0_pay8 v) (k0_pay9 v) (k0_pay10 v) (k0_pay11 v) (k0_pay12 v) (k0_pay13 v)

/-- The weight scratch before trip `n` of the loop, from what it held at the loop's start. -/
def wdLoop (i : grid0.Coords) (h : k0_cond1 i = 1#1) (w : Vec F S1024x512 .i8) (s : Vec F S256x512 .f32)
    (g : Vec F S16384x512 .bf16) : ℕ → Vec F S16384x512 .bf16
  | 0 => g
  | n + 1 => if hn : n < k0_t1_loop.trips then
      VecWindow.put (wdLoop i h w s g n) (k0_off3 i ⟨n, hn⟩) S64x512.size (deqRows i h w s ⟨n, hn⟩)
    else wdLoop i h w s g n

theorem wdLoop_succ (i : grid0.Coords) (h : k0_cond1 i = 1#1) (w : Vec F S1024x512 .i8) (s : Vec F S256x512 .f32)
    (g : Vec F S16384x512 .bf16) (t : Fin k0_t1_loop.trips) :
    wdLoop i h w s g (t.val + 1) = VecWindow.put (wdLoop i h w s g t.val) (k0_off3 i t) S64x512.size (deqRows i h w s t) := by
  rw [wdLoop.eq_2]; exact dif_pos t.isLt

set_option warn.classDefReducibility false in
/-- The loop by its invariant: before trip `k` the weight scratch reads as `wdLoop … k` of what it read at the start. -/
@[sl_loop] def loopInvHand (𝒱 : Variants) (c : Dev nD) (bd : Option 𝒱.V) (E : Set ℕ) (i : grid0.Coords) (arg3 : Memref sig .tc .vmem S768x2048 .bf16) (harg3 : arg3.IsWhole) (arg4 : Memref sig .tc .vmem S1024x512 .i8) (harg4 : arg4.IsWhole) (arg5 : Memref sig .tc .vmem S256x512 .f32) (harg5 : arg5.IsWhole) (arg6 : Memref sig .tc .vmem S112x2048 .bf16) (harg6 : arg6.IsWhole) (arg7 : Memref sig .tc .vmem S112x512 .bf16) (harg7 : arg7.IsWhole) (arg8 : Memref sig .tc .vmem S768x1 .i32) (harg8 : arg8.IsWhole) (arg9 : Memref sig .tc .vmem S768x512 .bf16) (harg9 : arg9.IsWhole) (arg10 : Memref sig .tc .vmem S16384x512 .bf16) (harg10 : arg10.IsWhole) (arg11 : Memref sig .tc .vmem S3840x128 .f32) (harg11 : arg11.IsWhole) (arg12 : Memref sig .tc .vmem S768x512 .f32) (harg12 : arg12.IsWhole) (arg2 : BitVec 32) (k0_h1 : k0_cond1 i = 1#1)
    (X_arg4 : BufTy.Contents (Elt F) arg4.view.ty) (X_arg5 : BufTy.Contents (Elt F) arg5.view.ty) (G_arg10 : BufTy.Contents (Elt F) arg10.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 k0_h1 where
  inv k _ := iprop((arg4.view.loc (c : Thread nD τ) ↦[arg4.view.set]{fullShare} X_arg4) ∗ (arg5.view.loc (c : Thread nD τ) ↦[arg5.view.set]{fullShare} X_arg5)
    ∗ (∃ f, (arg10.view.loc (c : Thread nD τ) ↦[arg10.view.set]{fullShare} f)
      ∗ ⌜arg10.view.read (Elt F) f = wdLoop i k0_h1 (arg4.view.read (Elt F) X_arg4) (arg5.view.read (Elt F) X_arg5) (arg10.view.read (Elt F) G_arg10) k⌝))
  step k acc := by
    have hk : k.val < 32 := Nat.lt_of_lt_of_le k.isLt k0_t1_abs.2.1
    iintro ⟨H4, H5, ⟨%f, H10, %hf⟩⟩
    sl_unfold [k0_t1_body]
    simp only [k0_part1_eq_skeleton]
    sl_exec
    sl_step
    isplitl [H4]; · iexact H4
    isplitl [H5]; · iexact H5
    iexists _; isplitl [H10]; · iexact H10
    ipureintro
    rw [View.read_writes_cons_put _ _ _ _ _ rfl, View.writes_nil, hf, wdLoop_succ]
    rfl

end Cert.KernelIdeal.Body

end
-- ==== Proof.Body.lean ====
/-
  One call of the kernel's body: what it leaves in the weight scratch, the accumulator, the low-rank scratch and the output
  block, as functions of what it finds.
-/
module

public import proofs.«01_k».proof.Proof.DequantLoop
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The weight scratch after the body: at the first row tile the loop's rows are new, elsewhere it is as found. -/
def wdAfter (i : grid0.Coords) (x1 : Vec F S1024x512 .i8) (x2 : Vec F S256x512 .f32) (g : Vec F S16384x512 .bf16) :
    Vec F S16384x512 .bf16 :=
  if h : k0_cond1 i = 1#1 then wdLoop i h x1 x2 g k0_t1_loop.trips else g

/-- The accumulator after the body: cleared at the first step, and one block product added. -/
def accAfter (i : grid0.Coords) (x0 : Vec F S768x2048 .bf16) (x1 : Vec F S1024x512 .i8) (x2 : Vec F S256x512 .f32)
    (g : Vec F S16384x512 .bf16) (a : Vec F S768x512 .f32) : Vec F S768x512 .f32 :=
  k0_pay3 (if k0_cond4 i = 1#1 then k0_pay2 else a) x0
    (VecWindow.window (wdAfter i x1 x2 g) (k0_off4 i) S2048x512.size (k0_off4_inb i))

/-- The low-rank scratch with its row tile cleared at the first step. -/
def hClear (i : grid0.Coords) (h : Vec F S3840x128 .f32) : Vec F S3840x128 .f32 :=
  if k0_cond4 i = 1#1 then VecWindow.put h (k0_off5 i) S768x128.size (k0_pay4 (F := F)) else h

/-- The low-rank scratch after the body: at the first column tile one block product is added to its row tile. -/
def hAfter (i : grid0.Coords) (x0 : Vec F S768x2048 .bf16) (x3 : Vec F S112x2048 .bf16) (h : Vec F S3840x128 .f32) :
    Vec F S3840x128 .f32 :=
  if h3 : k0_cond3 i = 1#1 then
    VecWindow.put (hClear i h) (k0_off6 i) S768x112.size
      (k0_pay5 (VecWindow.window (hClear i h) (k0_off6 i) S768x112.size (k0_off6_inb i h3)) x0 x3)
  else h

/-- The output block after the body: written at the last step, elsewhere as found. -/
def outAfter (i : grid0.Coords) (x0 : Vec F S768x2048 .bf16) (x1 : Vec F S1024x512 .i8) (x2 : Vec F S256x512 .f32)
    (x3 : Vec F S112x2048 .bf16) (x4 : Vec F S112x512 .bf16) (x5 : Vec F S768x1 .i32) (d : Vec F S768x512 .bf16)
    (g : Vec F S16384x512 .bf16) (h : Vec F S3840x128 .f32) (a : Vec F S768x512 .f32) : Vec F S768x512 .bf16 :=
  if h5 : k0_cond5 i = 1#1 then
    k0_pay14 x5 (VecWindow.window (hAfter i x0 x3 h) (k0_off7 i) S768x128.size (k0_off7_inb i h5)) x4 (accAfter i x0 x1 x2 g a)
  else d

/-- The two tests on the last grid coordinate exclude each other. -/
theorem not_cond5_of_cond4 (i : grid0.Coords) (h4 : k0_cond4 i = 1#1) : ¬ k0_cond5 i = 1#1 := by
  have key : ∀ k : Fin 8, Scalar.cmpi .ne (Scalar.extui (Scalar.cmpi .eq (BitVec.ofNat 32 k.val) 0#32) : BitVec 32) 0#32 = 1#1 →
      ¬ Scalar.cmpi .ne (Scalar.extui (Scalar.cmpi .eq (BitVec.ofNat 32 k.val) 7#32) : BitVec 32) 0#32 = 1#1 := by decide
  exact key (i 2) h4

/-- A load inside the one store made so far reads a window of the contents with that store put in. -/
theorem readCov_put {sig : RefSig} {κ : Kind} {sp : Space} {s : Shape} {e : EltTy} {Val : EltTy → Type} [∀ e, Nonempty (Val e)]
    (v : View sig κ sp s e) (x : s.Idx → Val e) {o₁ z₁ o₂ z₂ : Fin s.rank → ℕ} (inb₁ : ∀ a, o₁ a + z₁ a ≤ s.size a)
    (inb₂ : ∀ a, o₂ a + z₂ a ≤ s.size a) (w : (Rect.unit o₁ z₁ inb₁).shape.Idx → Val e)
    (h : ∀ a, o₁ a ≤ o₂ a ∧ o₂ a + z₂ a ≤ o₁ a + z₁ a) :
    v.readCov [⟨Rect.unit o₁ z₁ inb₁, w⟩] (Rect.unit o₂ z₂ inb₂).toLoadRect = VecWindow.window (VecWindow.put x o₁ z₁ w) o₂ z₂ inb₂ := by
  show v.readAt Val (Rect.unit o₂ z₂ inb₂).toLoadRect (v.writes Val v.junk [⟨Rect.unit o₁ z₁ inb₁, w⟩]) = _
  rw [View.readAt_unit v _ inb₂ rfl inb₂, View.read_writes_cons_put v _ inb₁ w [] rfl,
    VecWindow.window_put_of_inside _ _ _ _ _ _ _ h, VecWindow.window_put_of_inside _ _ _ _ _ _ _ h]

theorem win4_congr (i : grid0.Coords) {z z' : Vec F S16384x512 .bf16} (h : z = z') :
    (VecWindow.window z (k0_off4 i) S2048x512.size (k0_off4_inb i) : Vec F S2048x512 .bf16)
      = VecWindow.window z' (k0_off4 i) S2048x512.size (k0_off4_inb i) := by rw [h]

theorem win7_congr (i : grid0.Coords) (h5 : k0_cond5 i = 1#1) {z z' : Vec F S3840x128 .f32} (h : z = z') :
    (VecWindow.window z (k0_off7 i) S768x128.size (k0_off7_inb i h5) : Vec F S768x128 .f32)
      = VecWindow.window z' (k0_off7 i) S768x128.size (k0_off7_inb i h5) := by rw [h]

theorem put6_congr (i : grid0.Coords) {z z' : Vec F S3840x128 .f32} {w w' : Vec F S768x112 .f32} (h : z = z') (h' : w = w') :
    (VecWindow.put z (k0_off6 i) S768x112.size w : Vec F S3840x128 .f32) = VecWindow.put z' (k0_off6 i) S768x112.size w' := by
  rw [h, h']

theorem pay3_congr {p p' : Vec F S768x512 .f32} {q q' : Vec F S768x2048 .bf16} {r r' : Vec F S2048x512 .bf16}
    (hp : p = p') (hq : q = q') (hr : r = r') : k0_pay3 p q r = k0_pay3 p' q' r' := by rw [hp, hq, hr]

theorem pay5_congr {p p' : Vec F S768x112 .f32} {q q' : Vec F S768x2048 .bf16} {r r' : Vec F S112x2048 .bf16}
    (hp : p = p') (hq : q = q') (hr : r = r') : k0_pay5 p q r = k0_pay5 p' q' r' := by rw [hp, hq, hr]

theorem pay14_congr {p p' : Vec F S768x1 .i32} {q q' : Vec F S768x128 .f32} {r r' : Vec F S112x512 .bf16} {t t' : Vec F S768x512 .f32}
    (hp : p = p') (hq : q = q') (hr : r = r') (ht : t = t') : k0_pay14 p q r t = k0_pay14 p' q' r' t' := by rw [hp, hq, hr, ht]

set_option maxHeartbeats 8000000 in
/-- The body on whole buffers runs to the buffers it leaves: the inputs as found, the scratches and the output block at the
    functions above. -/
theorem sound_kernel (c : Dev nD) (E : Set ℕ) (i : grid0.Coords) (arg3 : Memref sig .tc .vmem S768x2048 .bf16) (harg3 : arg3.IsWhole) (arg4 : Memref sig .tc .vmem S1024x512 .i8) (harg4 : arg4.IsWhole) (arg5 : Memref sig .tc .vmem S256x512 .f32) (harg5 : arg5.IsWhole) (arg6 : Memref sig .tc .vmem S112x2048 .bf16) (harg6 : arg6.IsWhole) (arg7 : Memref sig .tc .vmem S112x512 .bf16) (harg7 : arg7.IsWhole) (arg8 : Memref sig .tc .vmem S768x1 .i32) (harg8 : arg8.IsWhole) (arg9 : Memref sig .tc .vmem S768x512 .bf16) (harg9 : arg9.IsWhole) (arg10 : Memref sig .tc .vmem S16384x512 .bf16) (harg10 : arg10.IsWhole) (arg11 : Memref sig .tc .vmem S3840x128 .f32) (harg11 : arg11.IsWhole) (arg12 : Memref sig .tc .vmem S768x512 .f32) (harg12 : arg12.IsWhole)
    (x0 : Vec F S768x2048 .bf16) (x1 : Vec F S1024x512 .i8) (x2 : Vec F S256x512 .f32) (x3 : Vec F S112x2048 .bf16) (x4 : Vec F S112x512 .bf16) (x5 : Vec F S768x1 .i32) (d : Vec F S768x512 .bf16) (g : Vec F S16384x512 .bf16) (h : Vec F S3840x128 .f32) (a : Vec F S768x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare d
        ∗ owns (c : Thread nD τ) arg10 fullShare g
        ∗ owns (c : Thread nD τ) arg11 fullShare h
        ∗ owns (c : Thread nD τ) arg12 fullShare a
        ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare x4
          ∗ owns (c : Thread nD τ) arg8 fullShare x5
          ∗ owns (c : Thread nD τ) arg9 fullShare (outAfter i x0 x1 x2 x3 x4 x5 d g h a)
          ∗ owns (c : Thread nD τ) arg10 fullShare (wdAfter i x1 x2 g)
          ∗ owns (c : Thread nD τ) arg11 fullShare (hAfter i x0 x3 h)
          ∗ owns (c : Thread nD τ) arg12 fullShare (accAfter i x0 x1 x2 g a)) -∗ K ⟨⟩))
      ⊢ wp frame (wpE (defs₀ (F := F)) Variants.none c none) E (cc0_body i arg3 harg3 arg4 harg4 arg5 harg5 arg6 harg6 arg7 harg7 arg8 harg8 arg9 harg9 arg10 harg10 arg11 harg11 arg12 harg12) K := by
  simp only [cc0_body_eq_skeleton]; unfold cc0_body_skel
  simp only [k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf3 hf4 hf5 hf6 hf7 hf8 hf9 hf10 hf11 hf12
  by_cases h1 : k0_cond1 i = 1#1 <;> by_cases h4 : k0_cond4 i = 1#1 <;> by_cases h3 : k0_cond3 i = 1#1 <;> by_cases h5 : k0_cond5 i = 1#1
  all_goals
    try exact absurd h5 (not_cond5_of_cond4 i h4)
  all_goals
    sl_exec (disch := first | exact h1 | exact h3 | exact h4 | exact h5)
    sl_step
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr; swap; · iexact H9
      ipureintro
      sl_unfold_words
      unfold outAfter
      first
      | rw [dif_neg h5]
      | (rw [dif_pos h5]
         refine (View.read_writes_full _ _ _ _ _).trans (pay14_congr (View.readAt_full _ _ _) ?_ (View.readAt_full _ _ _) ?_)
         · refine (View.readAt_unit _ _ _ rfl (k0_off7_inb i h5)).trans (win7_congr i h5 ?_)
           unfold hAfter hClear
           first
           | rw [dif_neg h3]
           | (rw [dif_pos h3, if_neg h4]
              refine (View.read_writes_cons_put _ _ _ _ _ rfl).trans ?_
              exact put6_congr i rfl
                (pay5_congr (View.readAt_unit _ _ _ rfl (k0_off6_inb i h3)) (View.readAt_full _ _ _) (View.readAt_full _ _ _)))
         · refine (View.readCov_full _ _ _ _ _).trans ?_
           unfold accAfter wdAfter
           rw [if_neg h4]
           refine pay3_congr (View.readAt_full _ _ _) (View.readAt_full _ _ _) ((View.readAt_unit _ _ _ rfl (k0_off4_inb i)).trans ?_)
           first
           | (rw [dif_neg h1]; done)
           | (rw [dif_neg h1]; rfl)
           | (rw [dif_pos h1]; exact win4_congr i (by assumption)))
    isplitl [H10]
    · iexists _; isplitr; swap; · iexact H10
      ipureintro
      unfold wdAfter
      first
      | rw [dif_neg h1]
      | (rw [dif_pos h1]; assumption)
    isplitl [H11]
    · iexists _; isplitr; swap; · iexact H11
      ipureintro
      sl_unfold_words
      unfold hAfter hClear
      first
      | rw [dif_neg h3]
      | (rw [dif_pos h3, if_neg h4]
         refine (View.read_writes_cons_put _ _ _ _ _ rfl).trans ?_
         exact put6_congr i rfl
           (pay5_congr (View.readAt_unit _ _ _ rfl (k0_off6_inb i h3)) (View.readAt_full _ _ _) (View.readAt_full _ _ _)))
      | (rw [dif_pos h3, if_pos h4]
         refine (View.read_writes_cons_put _ _ _ _ _ rfl).trans ?_
         refine put6_congr i (View.read_writes_cons_put _ _ _ _ _ rfl)
           (pay5_congr (readCov_put _ (arg11.view.read (Elt F) f11) _ (k0_off6_inb i h3) _ ?_) (View.readAt_full _ _ _) (View.readAt_full _ _ _))
         exact Fin.forall_fin_two.mpr ⟨⟨le_rfl, le_rfl⟩, ⟨le_rfl, show 0 + 112 ≤ 0 + 128 by omega⟩⟩)
    iexists _; isplitr; swap; · iexact H12
    ipureintro
    sl_unfold_words
    refine (View.read_writes_full _ _ _ _ _).trans ?_
    unfold accAfter wdAfter
    refine pay3_congr ?_ (View.readAt_full _ _ _) ((View.readAt_unit _ _ _ rfl (k0_off4_inb i)).trans ?_)
    · first
      | (rw [if_neg h4]; exact View.readAt_full _ _ _)
      | (rw [if_pos h4]; exact View.readCov_full _ _ _ _ _)
    · first
      | (rw [dif_neg h1]; done)
      | (rw [dif_neg h1]; rfl)
      | (rw [dif_pos h1]; exact win4_congr i (by assumption))

end Cert.KernelIdeal.Body

end
-- ==== Proof.Trajectory.lean ====
/-
  What the three scratches hold before each grid point, as functions of the blocks the windows stage: the weight scratch row
  by row, the low-rank scratch row tile by row tile, and the accumulator.
-/
module

public import proofs.«01_k».proof.Proof.Body
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem

variable {F : FTy → Type} [FloatOps F]

/-! ## The grid coordinates, the tests and the offsets in closed form -/

theorem trips_eq : k0_t1_loop.trips = 32 := by decide +kernel

theorem cond1_iff (i : grid0.Coords) : k0_cond1 i = 1#1 ↔ (i 1).val = 0 :=
  (by decide : ∀ k : Fin 5, Scalar.cmpi .ne (Scalar.extui (Scalar.cmpi .eq (BitVec.ofNat 32 k.val) 0#32) : BitVec 32) 0#32 = 1#1 ↔ k.val = 0) (i 1)

theorem cond3_iff (i : grid0.Coords) : k0_cond3 i = 1#1 ↔ (i 0).val = 0 :=
  (by decide : ∀ k : Fin 10, Scalar.cmpi .ne (Scalar.extui (Scalar.cmpi .eq (BitVec.ofNat 32 k.val) 0#32) : BitVec 32) 0#32 = 1#1 ↔ k.val = 0) (i 0)

theorem cond4_iff (i : grid0.Coords) : k0_cond4 i = 1#1 ↔ (i 2).val = 0 :=
  (by decide : ∀ k : Fin 8, Scalar.cmpi .ne (Scalar.extui (Scalar.cmpi .eq (BitVec.ofNat 32 k.val) 0#32) : BitVec 32) 0#32 = 1#1 ↔ k.val = 0) (i 2)

theorem cond5_iff (i : grid0.Coords) : k0_cond5 i = 1#1 ↔ (i 2).val = 7 :=
  (by decide : ∀ k : Fin 8, Scalar.cmpi .ne (Scalar.extui (Scalar.cmpi .eq (BitVec.ofNat 32 k.val) 7#32) : BitVec 32) 0#32 = 1#1 ↔ k.val = 7) (i 2)

theorem off1_eq (i : grid0.Coords) (t : Fin k0_t1_loop.trips) : k0_off1 i t = ![(i 2).val * 32 + t.val, 0] :=
  congrArg (fun n : ℕ => (![n, 0] : Fin 2 → ℕ))
    ((by decide +kernel : ∀ k : Fin 8, ∀ t : Fin k0_t1_loop.trips,
      (Scalar.indexCast (Scalar.addi (Scalar.muli (BitVec.ofNat 32 k.val) 32#32) (Scf.iv 0#32 1#32 t))).toNat = k.val * 32 + t.val) (i 2) t)

theorem off2_eq (t : Fin k0_t1_loop.trips) : k0_off2 t = ![t.val * 32, 0] :=
  congrArg (fun n : ℕ => (![n, 0] : Fin 2 → ℕ))
    ((by decide +kernel : ∀ t : Fin k0_t1_loop.trips,
      (Scalar.indexCast (Scalar.muli (Scf.iv 0#32 1#32 t) 32#32)).toNat = t.val * 32) t)

theorem off3_eq (i : grid0.Coords) (t : Fin k0_t1_loop.trips) : k0_off3 i t = ![(i 2).val * 2048 + t.val * 64, 0] :=
  congrArg (fun n : ℕ => (![n, 0] : Fin 2 → ℕ))
    ((by decide +kernel : ∀ k : Fin 8, ∀ t : Fin k0_t1_loop.trips,
      (Scalar.indexCast (Scalar.muli (Scalar.addi (Scalar.muli (BitVec.ofNat 32 k.val) 32#32) (Scf.iv 0#32 1#32 t)) 64#32)).toNat
        = k.val * 2048 + t.val * 64) (i 2) t)

theorem off4_eq (i : grid0.Coords) : k0_off4 i = ![(i 2).val * 2048, 0] :=
  congrArg (fun n : ℕ => (![n, 0] : Fin 2 → ℕ))
    ((by decide +kernel : ∀ k : Fin 8, (Scalar.indexCast (Scalar.muli (BitVec.ofNat 32 k.val) 2048#32)).toNat = k.val * 2048) (i 2))

theorem rowOff_eq (k : Fin 5) : (Scalar.indexCast (Scalar.muli (BitVec.ofNat 32 k.val) 768#32)).toNat = k.val * 768 :=
  (by decide +kernel : ∀ k : Fin 5, (Scalar.indexCast (Scalar.muli (BitVec.ofNat 32 k.val) 768#32)).toNat = k.val * 768) k

theorem off5_eq (i : grid0.Coords) : k0_off5 i = ![(i 1).val * 768, 0] :=
  congrArg (fun n : ℕ => (![n, 0] : Fin 2 → ℕ)) (rowOff_eq (i 1))
theorem off6_eq (i : grid0.Coords) : k0_off6 i = ![(i 1).val * 768, 0] :=
  congrArg (fun n : ℕ => (![n, 0] : Fin 2 → ℕ)) (rowOff_eq (i 1))
theorem off7_eq (i : grid0.Coords) : k0_off7 i = ![(i 1).val * 768, 0] :=
  congrArg (fun n : ℕ => (![n, 0] : Fin 2 → ℕ)) (rowOff_eq (i 1))

/-- Grid point `t` is column tile `t / 40`, row tile `t / 8 % 5`, contraction step `t % 8`. -/
theorem coords_val (t : Fin grid0.N) :
    (grid0.coords t 0).val = t.val / 40 ∧ (grid0.coords t 1).val = t.val / 8 % 5 ∧ (grid0.coords t 2).val = t.val % 8 :=
  (by decide +kernel : ∀ t : Fin grid0.N,
    (grid0.coords t 0).val = t.val / 40 ∧ (grid0.coords t 1).val = t.val / 8 % 5 ∧ (grid0.coords t 2).val = t.val % 8) t

/-! ## Windows and stores of whole rows, read at a row and a column -/

/-- A row block of a rank-2 vector, read at a row and a column. -/
theorem window_rows {α : Type} {R C r c : ℕ} (x : (⟨2, ![R, C]⟩ : Shape).Idx → α) {off : Fin 2 → ℕ} {o : ℕ}
    (inb : ∀ a, off a + (![r, c] : Fin 2 → ℕ) a ≤ (![R, C] : Fin 2 → ℕ) a) (ho : off = ![o, 0]) (y : Fin r) (q : Fin c)
    (hy : o + y.val < R) (hq : q.val < C) :
    VecWindow.window (s := ⟨2, ![R, C]⟩) x off ![r, c] inb (ix2 y q) = x (ix2 ⟨o + y.val, hy⟩ ⟨q.val, hq⟩) := by
  subst ho
  refine congrArg x (funext (Fin.forall_fin_two.mpr ⟨Fin.ext ?_, Fin.ext ?_⟩))
  · show o + 1 * y.val = o + y.val
    omega
  · show 0 + 1 * q.val = q.val
    omega

/-- A store of a row block, read inside it. -/
theorem put_rows_mem {α : Type} {R C r c : ℕ} (x : (⟨2, ![R, C]⟩ : Shape).Idx → α) {off : Fin 2 → ℕ} {o : ℕ}
    (w : (⟨2, ![r, c]⟩ : Shape).Idx → α) (ho : off = ![o, 0]) (y : Fin R) (q : Fin C) (h1 : o ≤ y.val) (h2 : y.val - o < r) (h3 : q.val < c) :
    VecWindow.put (s := ⟨2, ![R, C]⟩) x off ![r, c] w (ix2 y q) = w (ix2 ⟨y.val - o, h2⟩ ⟨q.val, h3⟩) := by
  subst ho
  have h : ∀ a : Fin 2, (![o, 0] : Fin 2 → ℕ) a ≤ ((ix2 y q : (⟨2, ![R, C]⟩ : Shape).Idx) a).val
      ∧ ((ix2 y q : (⟨2, ![R, C]⟩ : Shape).Idx) a).val < (![o, 0] : Fin 2 → ℕ) a + (![r, c] : Fin 2 → ℕ) a :=
    Fin.forall_fin_two.mpr ⟨⟨h1, show y.val < o + r by omega⟩, ⟨Nat.zero_le _, show q.val < 0 + c by omega⟩⟩
  refine (dif_pos h).trans (congrArg w (funext (Fin.forall_fin_two.mpr ⟨Fin.ext rfl, Fin.ext ?_⟩)))
  show q.val - 0 = q.val
  omega

/-- A store of a row block, read outside it. -/
theorem put_rows_not_mem {α : Type} {R C r c : ℕ} (x : (⟨2, ![R, C]⟩ : Shape).Idx → α) {off : Fin 2 → ℕ} {o : ℕ}
    (w : (⟨2, ![r, c]⟩ : Shape).Idx → α) (ho : off = ![o, 0]) (y : Fin R) (q : Fin C)
    (h : y.val < o ∨ o + r ≤ y.val ∨ c ≤ q.val) :
    VecWindow.put (s := ⟨2, ![R, C]⟩) x off ![r, c] w (ix2 y q) = x (ix2 y q) := by
  subst ho
  refine dif_neg fun hall => ?_
  have h0 : o ≤ y.val ∧ y.val < o + r := hall 0
  have h1 : 0 ≤ q.val ∧ q.val < 0 + c := hall 1
  omega

/-! ## The scratches' contents as functions of the blocks -/

/-- Sixty-four weight rows from one scale row and thirty-two packed rows. -/
def deq64 (a : Vec F S1x512 .f32) (v : Vec F S32x512 .i8) : FVec F S64x512 .bf16 :=
  k0_pay1 (k0_pay6 a) (k0_pay8 v) (k0_pay9 v) (k0_pay10 v) (k0_pay11 v) (k0_pay12 v) (k0_pay13 v)

/-- Row `r` of a scale block. -/
def scaleRow (s : Vec F S256x512 .f32) (r : ℕ) : Vec F S1x512 .f32 :=
  fun y => s (ix2 ⟨r % 256, Nat.mod_lt _ (by decide)⟩ (y 1))

/-- The thirty-two rows of a packed block from row `32 t` on. -/
def packedRows (w : Vec F S1024x512 .i8) (t : ℕ) : Vec F S32x512 .i8 :=
  fun y => w (ix2 ⟨(t * 32 + (y 0).val) % 1024, Nat.mod_lt _ (by decide)⟩ (y 1))

/-- Weight row `r` (of two thousand and forty-eight) of contraction step `k`, at column `q`, from the step's packed block and scale block. -/
def deqAt (w : Vec F S1024x512 .i8) (s : Vec F S256x512 .f32) (k r : ℕ) (q : Fin 512) : F .bf16 :=
  deq64 (scaleRow s (k * 32 + r / 64)) (packedRows w (r / 64)) (ix2 ⟨r % 64, Nat.mod_lt _ (by decide)⟩ q)

/-- The rows one trip stores are `deqAt`. -/
theorem deqRows_eq (i : grid0.Coords) (h : k0_cond1 i = 1#1) (w : Vec F S1024x512 .i8) (s : Vec F S256x512 .f32)
    (t : Fin k0_t1_loop.trips) (y : Fin 64) (q : Fin 512) :
    deqRows i h w s t (ix2 y q) = deqAt w s (i 2).val (t.val * 64 + y.val) q := by
  have ht : t.val < 32 := Nat.lt_of_lt_of_eq t.isLt trips_eq
  have hk : (i 2).val < 8 := (i 2).isLt
  have e1 : (t.val * 64 + y.val) / 64 = t.val := by omega
  have e2 : (t.val * 64 + y.val) % 64 = y.val := by omega
  have ha : (VecWindow.window s (k0_off1 i t) S1x512.size (k0_off1_inb i t h) : Vec F S1x512 .f32) = scaleRow s ((i 2).val * 32 + t.val) := by
    funext z
    idx_vars z
    refine (window_rows s (k0_off1_inb i t h) (off1_eq i t) z0 z1 (by omega) z1.isLt).trans (congrArg s ?_)
    refine (ix2_inj ..).2 ⟨Fin.ext ?_, rfl⟩
    show (i 2).val * 32 + t.val + z0.val = ((i 2).val * 32 + t.val) % 256
    omega
  have hv : (VecWindow.window w (k0_off2 t) S32x512.size (k0_off2_inb i t h) : Vec F S32x512 .i8) = packedRows w t.val := by
    funext z
    idx_vars z
    refine (window_rows w (k0_off2_inb i t h) (off2_eq t) z0 z1 (by omega) z1.isLt).trans (congrArg w ?_)
    refine (ix2_inj ..).2 ⟨Fin.ext ?_, rfl⟩
    show t.val * 32 + z0.val = (t.val * 32 + z0.val) % 1024
    omega
  unfold deqAt
  rw [show deqRows i h w s t = deq64 (scaleRow s ((i 2).val * 32 + t.val)) (packedRows w t.val) by
    rw [← ha, ← hv]; rfl]
  simp only [e1, e2]

/-- The weight scratch before trip `n` of the loop: the rows of the trips run are new, the others as found. -/
theorem wdLoop_apply (i : grid0.Coords) (h : k0_cond1 i = 1#1) (w : Vec F S1024x512 .i8) (s : Vec F S256x512 .f32)
    (g : Vec F S16384x512 .bf16) (n : ℕ) (hn : n ≤ 32) (r : Fin 16384) (q : Fin 512) :
    wdLoop i h w s g n (ix2 r q)
      = if (i 2).val * 2048 ≤ r.val ∧ r.val < (i 2).val * 2048 + n * 64 then deqAt w s (i 2).val (r.val - (i 2).val * 2048) q
        else g (ix2 r q) := by
  induction n with
  | zero => rw [if_neg (by omega)]; rfl
  | succ n ih =>
    have hn' : n < k0_t1_loop.trips := by rw [trips_eq]; omega
    rw [show wdLoop i h w s g (n + 1) = _ from wdLoop_succ i h w s g ⟨n, hn'⟩]
    by_cases hr : (i 2).val * 2048 + n * 64 ≤ r.val ∧ r.val < (i 2).val * 2048 + (n + 1) * 64
    · rw [if_pos (by omega)]
      refine (put_rows_mem (r := 64) (c := 512) _ _ (off3_eq i ⟨n, hn'⟩) r q hr.1 (by show r.val - ((i 2).val * 2048 + n * 64) < 64; omega) q.isLt).trans ?_
      refine (deqRows_eq i h w s ⟨n, hn'⟩ _ _).trans ?_
      refine congrArg (fun z => deqAt w s (i 2).val z q) ?_
      show n * 64 + (r.val - ((i 2).val * 2048 + n * 64)) = _
      omega
    · refine (put_rows_not_mem (r := 64) (c := 512) _ _ (off3_eq i ⟨n, hn'⟩) r q (by show r.val < (i 2).val * 2048 + n * 64 ∨ (i 2).val * 2048 + n * 64 + 64 ≤ r.val ∨ _; omega)).trans ?_
      rw [ih (by omega)]
      by_cases hs : (i 2).val * 2048 ≤ r.val ∧ r.val < (i 2).val * 2048 + n * 64
      · rw [if_pos hs, if_pos (by omega)]
      · rw [if_neg hs, if_neg (by omega)]

end Cert.KernelIdeal.Body

end
-- ==== Proof.Invariant.lean ====
/-
  The invariant of the grid walk: what the weight scratch, the low-rank scratch and the accumulator hold before grid point `t`,
  that one body call keeps it, and the output block the body leaves at the last contraction step.
-/
module

public import proofs.«01_k».proof.Proof.Trajectory

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem

variable {F : FTy → Type} [FloatOps F]

/-- The blocks the input windows stage, at every grid point. -/
structure Blocks (F : FTy → Type) [FloatOps F] where
  x : ℕ → Vec F S768x2048 .bf16
  w : ℕ → Vec F S1024x512 .i8
  s : ℕ → Vec F S256x512 .f32
  la : ℕ → Vec F S112x2048 .bf16
  lb : ℕ → Vec F S112x512 .bf16
  ids : ℕ → Vec F S768x1 .i32

/-- The dequantised weights of column tile `n`: row `r` comes from the packed block staged at contraction step `r / 2048` of the
    first row tile. -/
def wdFull (B : Blocks F) (n : ℕ) : Vec F S16384x512 .bf16 :=
  fun y => deqAt (B.w (n * 40 + (y 0).val / 2048)) (B.s (n * 40 + (y 0).val / 2048)) ((y 0).val / 2048) ((y 0).val % 2048) (y 1)

/-- The two thousand and forty-eight weight rows of contraction step `k`. -/
def wdBlock (B : Blocks F) (n k : ℕ) : Vec F S2048x512 .bf16 :=
  fun y => wdFull B n (ix2 ⟨(k * 2048 + (y 0).val) % 16384, Nat.mod_lt _ (by decide)⟩ (y 1))

/-- The accumulator of column tile `n` after `j` contraction steps from grid point `b` on. -/
def accP (B : Blocks F) (n b : ℕ) : ℕ → Vec F S768x512 .f32
  | 0 => k0_pay2
  | j + 1 => k0_pay3 (accP B n b j) (B.x (b + j)) (wdBlock B n j)

/-- The low-rank products of row tile `m` after `j` contraction steps. -/
def hP (B : Blocks F) (m : ℕ) : ℕ → Vec F S768x112 .f32
  | 0 => fun y => k0_pay4 (ix2 (y 0) ⟨(y 1).val, lt_trans (y 1).isLt (by decide)⟩)
  | j + 1 => k0_pay5 (hP B m j) (B.x (m * 8 + j)) (B.la (m * 8 + j))

/-- A row tile of the low-rank scratch: one hundred and twelve columns of products, the rest cleared. -/
def tileOf (p : Vec F S768x112 .f32) : Vec F S768x128 .f32 :=
  fun y => if h : (y 1).val < 112 then p (ix2 (y 0) ⟨(y 1).val, h⟩) else k0_pay4 y

theorem tileOf_lt (p : Vec F S768x112 .f32) (y : Fin 768) (q : Fin 128) (hq : q.val < 112) :
    tileOf p (ix2 y q) = p (ix2 y ⟨q.val, hq⟩) := by
  unfold tileOf
  exact dif_pos hq

theorem tileOf_ge (p : Vec F S768x112 .f32) (y : Fin 768) (q : Fin 128) (hq : ¬ q.val < 112) :
    tileOf p (ix2 y q) = k0_pay4 (ix2 y q) := by
  unfold tileOf
  exact dif_neg hq

/-- The output block of the row and column tile that ends at grid point `t`. -/
def outP (B : Blocks F) (t : ℕ) : Vec F S768x512 .bf16 :=
  k0_pay14 (B.ids t) (tileOf (hP B (t / 8 % 5) 8)) (B.lb t) (accP B (t / 40) (t - 7) 8)

/-- What the scratches hold before grid point `t`. -/
structure Inv (B : Blocks F) (t : ℕ) (g : Vec F S16384x512 .bf16) (h : Vec F S3840x128 .f32) (a : Vec F S768x512 .f32) : Prop where
  wd : ∀ (r : Fin 16384) (q : Fin 512), (t / 8 % 5 = 0 → r.val < t % 8 * 2048) → g (ix2 r q) = wdFull B (t / 40) (ix2 r q)
  lowrank : ∀ (m : Fin 5) (y : Fin 768) (q : Fin 128), (t / 40 = 0 → m.val < t / 8 % 5 ∨ (m.val = t / 8 % 5 ∧ 0 < t % 8)) →
    h (ix2 ⟨m.val * 768 + y.val, by omega⟩ q)
      = tileOf (hP B m.val (if t / 40 = 0 ∧ m.val = t / 8 % 5 then t % 8 else 8)) (ix2 y q)
  acc : 0 < t % 8 → a = accP B (t / 40) (t - t % 8) (t % 8)

/-- Before the first grid point nothing is asked of the scratches. -/
theorem Inv.zero (B : Blocks F) (g : Vec F S16384x512 .bf16) (h : Vec F S3840x128 .f32) (a : Vec F S768x512 .f32) : Inv B 0 g h a where
  wd r q hr := by have := hr rfl; omega
  lowrank m y q hm := by have := hm rfl; omega
  acc h := by omega

/-- The weight scratch after the body, away from the first row tile: as found. -/
theorem wdAfter_of_ne (i : grid0.Coords) (w : Vec F S1024x512 .i8) (s : Vec F S256x512 .f32) (g : Vec F S16384x512 .bf16)
    (h : (i 1).val ≠ 0) : wdAfter i w s g = g := dif_neg fun h' => h ((cond1_iff i).1 h')

/-- The weight scratch after the body, at the first row tile: the step's rows are new. -/
theorem wdAfter_apply (i : grid0.Coords) (w : Vec F S1024x512 .i8) (s : Vec F S256x512 .f32) (g : Vec F S16384x512 .bf16)
    (h : (i 1).val = 0) (r : Fin 16384) (q : Fin 512) :
    wdAfter i w s g (ix2 r q)
      = if (i 2).val * 2048 ≤ r.val ∧ r.val < (i 2).val * 2048 + 2048 then deqAt w s (i 2).val (r.val - (i 2).val * 2048) q
        else g (ix2 r q) := by
  unfold wdAfter
  rw [dif_pos ((cond1_iff i).2 h), trips_eq]
  exact wdLoop_apply i ((cond1_iff i).2 h) w s g 32 le_rfl r q

/-- A row tile of the low-rank scratch other than the current one, or at a later column tile: as found. -/
theorem hAfter_other (i : grid0.Coords) (x : Vec F S768x2048 .bf16) (l : Vec F S112x2048 .bf16) (h : Vec F S3840x128 .f32)
    (m : Fin 5) (y : Fin 768) (q : Fin 128) (hm : (i 0).val = 0 → m.val ≠ (i 1).val) :
    hAfter i x l h (ix2 ⟨m.val * 768 + y.val, by omega⟩ q) = h (ix2 ⟨m.val * 768 + y.val, by omega⟩ q) := by
  by_cases h3 : (i 0).val = 0
  · have hm' := hm h3
    have hc : hClear i h (ix2 ⟨m.val * 768 + y.val, by omega⟩ q) = h (ix2 ⟨m.val * 768 + y.val, by omega⟩ q) := by
      unfold hClear
      split_ifs
      · exact put_rows_not_mem (r := 768) (c := 128) _ _ (off5_eq i) _ q (by
          show m.val * 768 + y.val < (i 1).val * 768 ∨ (i 1).val * 768 + 768 ≤ m.val * 768 + y.val ∨ _
          omega)
      · rfl
    unfold hAfter
    rw [dif_pos ((cond3_iff i).2 h3)]
    refine (put_rows_not_mem (r := 768) (c := 112) _ _ (off6_eq i) _ q (by
      show m.val * 768 + y.val < (i 1).val * 768 ∨ (i 1).val * 768 + 768 ≤ m.val * 768 + y.val ∨ _
      omega)).trans hc
  · unfold hAfter
    rw [dif_neg fun h' => h3 ((cond3_iff i).1 h')]

/-- The current row tile of the low-rank scratch at the first column tile: one more block product. -/
theorem hAfter_tile (i : grid0.Coords) (x : Vec F S768x2048 .bf16) (l : Vec F S112x2048 .bf16) (h : Vec F S3840x128 .f32)
    (h3 : (i 0).val = 0) (B : Blocks F) (j : ℕ) (p : Vec F S768x112 .f32)
    (h0 : (i 2).val = 0 → p = hP B j 0)
    (hp : (i 2).val ≠ 0 → ∀ (y : Fin 768) (q : Fin 128) hy, h (ix2 ⟨(i 1).val * 768 + y.val, hy⟩ q) = tileOf p (ix2 y q))
    (y : Fin 768) (q : Fin 128) (hy : (i 1).val * 768 + y.val < 3840) :
    hAfter i x l h (ix2 ⟨(i 1).val * 768 + y.val, hy⟩ q) = tileOf (k0_pay5 p x l) (ix2 y q) := by
  have hi1 : (i 1).val < 5 := (i 1).isLt
  have hc : ∀ (y : Fin 768) (q : Fin 128) hy, hClear i h (ix2 ⟨(i 1).val * 768 + y.val, hy⟩ q) = tileOf p (ix2 y q) := by
    intro y q hy
    unfold hClear
    by_cases h4 : (i 2).val = 0
    · rw [if_pos ((cond4_iff i).2 h4)]
      refine (put_rows_mem (r := 768) (c := 128) _ _ (off5_eq i) _ q (Nat.le_add_right _ _)
        (by show (i 1).val * 768 + y.val - (i 1).val * 768 < 768; omega) q.isLt).trans ?_
      rw [h0 h4]
      have e : (⟨(i 1).val * 768 + y.val - (i 1).val * 768, by omega⟩ : Fin 768) = y := Fin.ext (by show _ - _ = _; omega)
      show k0_pay4 (F := F) (ix2 (⟨(i 1).val * 768 + y.val - (i 1).val * 768, _⟩ : Fin 768) q) = _
      rw [e]
      unfold tileOf
      split_ifs
      · rfl
      · rfl
    · rw [if_neg fun h' => h4 ((cond4_iff i).1 h')]
      exact hp h4 y q hy
  have h3' := (cond3_iff i).2 h3
  have hw : (VecWindow.window (hClear i h) (k0_off6 i) S768x112.size (k0_off6_inb i h3') : Vec F S768x112 .f32) = p := by
    funext z
    idx_vars z
    refine (window_rows (hClear i h) (k0_off6_inb i h3') (off6_eq i) z0 z1 (by omega) (lt_trans z1.isLt (by decide))).trans ?_
    refine (hc z0 ⟨z1.val, lt_trans z1.isLt (by decide)⟩ (by omega)).trans ?_
    unfold tileOf
    exact dif_pos z1.isLt
  unfold hAfter
  rw [dif_pos h3', hw]
  by_cases hq : q.val < 112
  · refine (put_rows_mem (r := 768) (c := 112) _ _ (off6_eq i) _ q (Nat.le_add_right _ _)
        (by show (i 1).val * 768 + y.val - (i 1).val * 768 < 768; omega) hq).trans ?_
    have e : (⟨(i 1).val * 768 + y.val - (i 1).val * 768, by omega⟩ : Fin 768) = y := Fin.ext (by show _ - _ = _; omega)
    show k0_pay5 p x l (ix2 (⟨(i 1).val * 768 + y.val - (i 1).val * 768, _⟩ : Fin 768) ⟨q.val, hq⟩) = _
    rw [e]
    exact (tileOf_lt (k0_pay5 p x l) y q hq).symm
  · refine (put_rows_not_mem (r := 768) (c := 112) _ _ (off6_eq i) _ q (Or.inr (Or.inr (not_lt.1 hq)))).trans ?_
    refine (hc y q hy).trans ?_
    exact (tileOf_ge p y q hq).trans (tileOf_ge (k0_pay5 p x l) y q hq).symm

section step

variable (B : Blocks F) (t : ℕ) (i : grid0.Coords) (h0 : (i 0).val = t / 40) (h1 : (i 1).val = t / 8 % 5) (h2 : (i 2).val = t % 8)
  (ht : t < 400) {g : Vec F S16384x512 .bf16} {h : Vec F S3840x128 .f32} {a : Vec F S768x512 .f32} (I : Inv B t g h a)
include h0 h1 h2 ht I

/-- After the body, every weight row up to the end of the current step is the dequantised one; away from the first row tile, every row. -/
theorem wdAfter_eq (r : Fin 16384) (q : Fin 512) (hr : t / 8 % 5 = 0 → r.val < (t % 8 + 1) * 2048) :
    wdAfter i (B.w t) (B.s t) g (ix2 r q) = wdFull B (t / 40) (ix2 r q) := by
  by_cases hm : t / 8 % 5 = 0
  · have hr' := hr hm
    rw [wdAfter_apply i _ _ g (h1.trans hm) r q]
    split_ifs with hc
    · have e1 : r.val / 2048 = (i 2).val := by omega
      have e2 : t / 40 * 40 + (i 2).val = t := by omega
      have e3 : r.val % 2048 = r.val - (i 2).val * 2048 := by omega
      show _ = deqAt (B.w (t / 40 * 40 + r.val / 2048)) (B.s (t / 40 * 40 + r.val / 2048)) (r.val / 2048) (r.val % 2048) q
      rw [e1, e2, e3]
    · exact I.wd r q fun _ => by omega
  · rw [wdAfter_of_ne i _ _ g (by omega)]
    exact I.wd r q fun h => absurd h hm

/-- The weight rows the body's product reads are the dequantised rows of its step. -/
theorem wdWindow_eq :
    (VecWindow.window (wdAfter i (B.w t) (B.s t) g) (k0_off4 i) S2048x512.size (k0_off4_inb i) : Vec F S2048x512 .bf16)
      = wdBlock B (t / 40) (t % 8) := by
  funext z
  idx_vars z
  refine (window_rows (wdAfter i (B.w t) (B.s t) g) (k0_off4_inb i) (off4_eq i) z0 z1 (by omega) z1.isLt).trans ?_
  refine (wdAfter_eq B t i h0 h1 h2 ht I _ _ fun _ => by show (i 2).val * 2048 + z0.val < _; omega).trans ?_
  refine congrArg (wdFull B (t / 40)) ((ix2_inj ..).2 ⟨Fin.ext ?_, rfl⟩)
  show (i 2).val * 2048 + z0.val = (t % 8 * 2048 + z0.val) % 16384
  omega

/-- The accumulator after the body has one more step's product. -/
theorem accAfter_eq : accAfter i (B.x t) (B.w t) (B.s t) g a = accP B (t / 40) (t - t % 8) (t % 8 + 1) := by
  have ea : (if k0_cond4 i = 1#1 then k0_pay2 else a) = accP B (t / 40) (t - t % 8) (t % 8) := by
    by_cases hk : t % 8 = 0
    · rw [if_pos ((cond4_iff i).2 (h2.trans hk)), hk]; rfl
    · rw [if_neg fun h' => hk (h2.symm.trans ((cond4_iff i).1 h'))]
      exact I.acc (Nat.pos_of_ne_zero hk)
  have et : t - t % 8 + t % 8 = t := by omega
  unfold accAfter
  rw [wdWindow_eq B t i h0 h1 h2 ht I, ea]
  show _ = k0_pay3 (accP B (t / 40) (t - t % 8) (t % 8)) (B.x (t - t % 8 + t % 8)) (wdBlock B (t / 40) (t % 8))
  rw [et]

/-- Every row tile of the low-rank scratch after the body. -/
theorem hAfter_eq (m : Fin 5) (y : Fin 768) (q : Fin 128) (hm : t / 40 = 0 → m.val ≤ t / 8 % 5) :
    hAfter i (B.x t) (B.la t) h (ix2 ⟨m.val * 768 + y.val, by omega⟩ q)
      = tileOf (hP B m.val (if t / 40 = 0 ∧ m.val = t / 8 % 5 then t % 8 + 1 else 8)) (ix2 y q) := by
  by_cases hc : t / 40 = 0 ∧ m.val = t / 8 % 5
  · rw [if_pos hc]
    have em : m.val = (i 1).val := hc.2.trans h1.symm
    have et : m.val * 8 + t % 8 = t := by omega
    have key := hAfter_tile i (B.x t) (B.la t) h (h0.trans hc.1) B m.val (hP B m.val (t % 8))
      (fun hk => by rw [← h2, hk]) (fun hk y q hy => by
        have := I.lowrank m y q fun _ => Or.inr ⟨hc.2, by omega⟩
        rw [if_pos hc] at this
        simpa only [em] using this) y q (by omega)
    have : hP B m.val (t % 8 + 1) = k0_pay5 (hP B m.val (t % 8)) (B.x t) (B.la t) := by
      show k0_pay5 _ (B.x (m.val * 8 + t % 8)) (B.la (m.val * 8 + t % 8)) = _
      rw [et]
    rw [this]
    simpa only [em] using key
  · rw [if_neg hc, hAfter_other i _ _ h m y q fun h' => by omega]
    have := I.lowrank m y q fun hn => Or.inl (by have := hm hn; omega)
    rwa [if_neg hc] at this

/-- One body call keeps the invariant. -/
theorem Inv.step : Inv B (t + 1) (wdAfter i (B.w t) (B.s t) g) (hAfter i (B.x t) (B.la t) h) (accAfter i (B.x t) (B.w t) (B.s t) g a) where
  wd r q hr := by
    by_cases hn : (t + 1) / 40 = t / 40
    · rw [hn]
      refine wdAfter_eq B t i h0 h1 h2 ht I r q fun hm => ?_
      have := r.isLt
      by_cases hm' : (t + 1) / 8 % 5 = 0
      · have := hr hm'; omega
      · omega
    · have := hr (by omega); omega
  lowrank m y q hm := by
    refine (hAfter_eq B t i h0 h1 h2 ht I m y q fun hn => by omega).trans ?_
    have : (if t / 40 = 0 ∧ m.val = t / 8 % 5 then t % 8 + 1 else 8)
        = (if (t + 1) / 40 = 0 ∧ m.val = (t + 1) / 8 % 5 then (t + 1) % 8 else 8) := by
      split_ifs <;> omega
    rw [this]
  acc hk := by
    rw [accAfter_eq B t i h0 h1 h2 ht I]
    have e1 : (t + 1) / 40 = t / 40 := by omega
    have e2 : t + 1 - (t + 1) % 8 = t - t % 8 := by omega
    have e3 : (t + 1) % 8 = t % 8 + 1 := by omega
    rw [e1, e2, e3]

/-- The output block the body leaves at the last contraction step. -/
theorem outAfter_eq (hk : t % 8 = 7) (d : Vec F S768x512 .bf16) :
    outAfter i (B.x t) (B.w t) (B.s t) (B.la t) (B.lb t) (B.ids t) d g h a = outP B t := by
  have h5 : k0_cond5 i = 1#1 := (cond5_iff i).2 (h2.trans hk)
  have hw : (VecWindow.window (hAfter i (B.x t) (B.la t) h) (k0_off7 i) S768x128.size (k0_off7_inb i h5) : Vec F S768x128 .f32)
      = tileOf (hP B (t / 8 % 5) 8) := by
    funext z
    idx_vars z
    refine (window_rows (hAfter i (B.x t) (B.la t) h) (k0_off7_inb i h5) (off7_eq i) z0 z1 (by omega) z1.isLt).trans ?_
    have := hAfter_eq B t i h0 h1 h2 ht I ⟨t / 8 % 5, by omega⟩ z0 z1 fun _ => le_rfl
    rw [show (if t / 40 = 0 ∧ t / 8 % 5 = t / 8 % 5 then t % 8 + 1 else 8) = 8 by split_ifs <;> omega] at this
    simpa only [h1] using this
  unfold outAfter outP
  rw [dif_pos h5, hw, accAfter_eq B t i h0 h1 h2 ht I, hk]

/-- Before the last contraction step the output block is as found. -/
theorem outAfter_idle (hk : t % 8 ≠ 7) (d : Vec F S768x512 .bf16) :
    outAfter i (B.x t) (B.w t) (B.s t) (B.la t) (B.lb t) (B.ids t) d g h a = d :=
  dif_neg fun h' => hk (h2.symm.trans ((cond5_iff i).1 h'))

end step

end Cert.KernelIdeal.Body

end
-- ==== Proof.Run.lean ====
/-
  The region's proof data — the three scratches' invariant, the output block of each row and column tile —, the body obligation
  at every grid point, and the run of the whole program to the library's account of every array.
-/
module

public import proofs.«01_k».proof.Proof.Invariant

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `t`. -/
def pt (t : ℕ) : Fin cfg0.N := ⟨t % 400, lt_of_lt_of_eq (Nat.mod_lt _ (by decide)) N_0.symm⟩

theorem lt_400 (t : Fin cfg0.N) : t.val < 400 := lt_of_lt_of_eq t.isLt N_0

theorem pt_val (t : Fin cfg0.N) : pt t.val = t := Fin.ext (Nat.mod_eq_of_lt (lt_400 t))

/-- The blocks the input windows stage, read off the arrays at the region's entry. -/
def blocks (c : Dev nD) : Blocks F where
  x t := iblk m c 0 (pt t)
  w t := iblk m c 1 (pt t)
  s t := iblk m c 2 (pt t)
  la t := iblk m c 3 (pt t)
  lb t := iblk m c 4 (pt t)
  ids t := iblk m c 5 (pt t)

/-- The state between grid points: the three scratches at contents the invariant admits, and the generator register. -/
def PhiS (c : Dev nD) (n : ℕ) (_ : n ≤ cfg0.N) : sProp 𝕄 :=
  iprop((∃ (g : Vec F S16384x512 .bf16) (h : Vec F S3840x128 .f32) (a : Vec F S768x512 .f32), ⌜Inv (blocks m c) n g h a⌝
      ∗ owns (c : Thread nD τ) (Memref.whole cc0_scratch0) fullShare g
      ∗ owns (c : Thread nD τ) (Memref.whole cc0_scratch1) fullShare h
      ∗ owns (c : Thread nD τ) (Memref.whole cc0_scratch2) fullShare a) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP (blocks m c) t.val
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_castSucc (c : Dev nD) (t : Fin cfg0.N) : (dats m 0 c).Φ t.castSucc = PhiS m c t.val (Nat.le_of_lt t.isLt) := by
  dsimp only [dats]; exact Pipeline.Dat.Φ_castSucc (PhiS m c) t

theorem Φ_succ (c : Dev nD) (t : Fin cfg0.N) : (dats m 0 c).Φ t.succ = PhiS m c (t.val + 1) t.isLt := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outP (blocks m c) t.val := by dsimp only [dats]

theorem before_0 (c : Dev nD) (t : Fin cfg0.N) (d) : (dats m 0 c).before 0 t d = (blocks m c).x t.val := by
  rw [before0_0_of m (dats m 0 c) (A_eq m c 0) (after_0 m c) t d]; unfold blocks; dsimp only; rw [pt_val]
theorem before_1 (c : Dev nD) (t : Fin cfg0.N) (d) : (dats m 0 c).before 1 t d = (blocks m c).w t.val := by
  rw [before0_1_of m (dats m 0 c) (A_eq m c 1) (after_1 m c) t d]; unfold blocks; dsimp only; rw [pt_val]
theorem before_2 (c : Dev nD) (t : Fin cfg0.N) (d) : (dats m 0 c).before 2 t d = (blocks m c).s t.val := by
  rw [before0_2_of m (dats m 0 c) (A_eq m c 2) (after_2 m c) t d]; unfold blocks; dsimp only; rw [pt_val]
theorem before_3 (c : Dev nD) (t : Fin cfg0.N) (d) : (dats m 0 c).before 3 t d = (blocks m c).la t.val := by
  rw [before0_3_of m (dats m 0 c) (A_eq m c 3) (after_3 m c) t d]; unfold blocks; dsimp only; rw [pt_val]
theorem before_4 (c : Dev nD) (t : Fin cfg0.N) (d) : (dats m 0 c).before 4 t d = (blocks m c).lb t.val := by
  rw [before0_4_of m (dats m 0 c) (A_eq m c 4) (after_4 m c) t d]; unfold blocks; dsimp only; rw [pt_val]
theorem before_5 (c : Dev nD) (t : Fin cfg0.N) (d) : (dats m 0 c).before 5 t d = (blocks m c).ids t.val := by
  rw [before0_5_of m (dats m 0 c) (A_eq m c 5) (after_5 m c) t d]; unfold blocks; dsimp only; rw [pt_val]

/-- The body as the pipeline calls it. -/
theorem defs₀_row (t : Fin cfg0.N) : defs₀ (F := F) .tc cfg0.body (cfg0.bodyArgs t (cfg0.slots t)) = bodyAt0 t := by
  unfold defs₀; rw [Defs.onTc_tc]

/-- The output window is written at the last contraction step, -/
theorem idle_6_last (t : Fin cfg0.N) (hk : t.val % 8 = 7) : idle0 6 (grid0.coords t) = false := by
  show (!(k0_cond5 (grid0.coords t) == 1#1)) = false
  rw [(cond5_iff (grid0.coords t)).2 ((coords_val t).2.2.trans hk)]; rfl

/-- and idle before it. -/
theorem idle_6_before (t : Fin cfg0.N) (hk : t.val % 8 ≠ 7) : idle0 6 (grid0.coords t) = true := by
  show (!(k0_cond5 (grid0.coords t) == 1#1)) = true
  rw [beq_eq_false_iff_ne.2 fun h' => hk ((coords_val t).2.2.symm.trans ((cond5_iff (grid0.coords t)).1 h'))]; rfl

/-- The body at a grid point: from the blocks staged there and scratches the invariant admits, to the scratches of the next
    point and, at the last contraction step, the output block. -/
theorem body_obligation (c : Dev nD) : BodyObligation (dats m 0 c) (defs₀ (F := F)) Variants.none () Set.univ := fun t => by
  rw [bigSep_W0, bigSep_W0, defs₀_row, Φ_castSucc, Φ_succ]
  have ht := lt_400 t
  obtain ⟨e0, e1, e2⟩ := coords_val t
  unfold PhiS Dat.owesAt Pipeline.owesWithin
  dsimp only
  rw [show (dats m 0 c).owed t.castSucc = 0 from rfl, show (dats m 0 c).owed t.succ = 0 from rfl]
  iintro ⟨⟨⟨%g, %h, %a, %hI, Hg, Hh, Ha⟩, Hr⟩, ⟨%W, -, HO⟩, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (sound_kernel c Set.univ (grid0.coords t) _ _ _ _ _ _ _ _ _ _ _ _ _ _ _ _ _ _ _ _
    ((blocks m c).x t.val) ((blocks m c).w t.val) ((blocks m c).s t.val) ((blocks m c).la t.val) ((blocks m c).lb t.val)
    ((blocks m c).ids t.val) ((dats m 0 c).before 6 t d6) g h a)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hg]; · iexact Hg
  isplitl [Hh]; · iexact Hh
  isplitl [Ha]; · iexact Ha
  iintro ⟨H0, H1, H2, H3, H4, H5, H6, Hg, Hh, Ha⟩
  isplitl [Hg Hh Ha Hr]
  · isplitl [Hg Hh Ha]
    · iexists (wdAfter (grid0.coords t) ((blocks m c).w t.val) ((blocks m c).s t.val) g)
      iexists (hAfter (grid0.coords t) ((blocks m c).x t.val) ((blocks m c).la t.val) h)
      iexists (accAfter (grid0.coords t) ((blocks m c).x t.val) ((blocks m c).w t.val) ((blocks m c).s t.val) g a)
      isplitr
      · ipureintro
        exact Inv.step (blocks m c) t.val (grid0.coords t) e0 e1 e2 ht hI
      isplitl [Hg]; · iexact Hg
      isplitl [Hh]; · iexact Hh
      iexact Ha
    · iexact Hr
  isplitl [HO]
  · iexists W; isplitr; · ipureintro; exact fun _ _ => Or.inl trivial
    iexact HO
  have b0 : (dats m 0 c).after 0 t = (blocks m c).x t.val := by rw [← before_0 m c t d0, before0_0_of m (dats m 0 c) (A_eq m c 0) (after_0 m c) t d0, after_0]
  have b1 : (dats m 0 c).after 1 t = (blocks m c).w t.val := by rw [← before_1 m c t d1, before0_1_of m (dats m 0 c) (A_eq m c 1) (after_1 m c) t d1, after_1]
  have b2 : (dats m 0 c).after 2 t = (blocks m c).s t.val := by rw [← before_2 m c t d2, before0_2_of m (dats m 0 c) (A_eq m c 2) (after_2 m c) t d2, after_2]
  have b3 : (dats m 0 c).after 3 t = (blocks m c).la t.val := by rw [← before_3 m c t d3, before0_3_of m (dats m 0 c) (A_eq m c 3) (after_3 m c) t d3, after_3]
  have b4 : (dats m 0 c).after 4 t = (blocks m c).lb t.val := by rw [← before_4 m c t d4, before0_4_of m (dats m 0 c) (A_eq m c 4) (after_4 m c) t d4, after_4]
  have b5 : (dats m 0 c).after 5 t = (blocks m c).ids t.val := by rw [← before_5 m c t d5, before0_5_of m (dats m 0 c) (A_eq m c 5) (after_5 m c) t d5, after_5]
  isplitl [H0]; · rw [b0]; iexact H0
  isplitl [H1]; · rw [b1]; iexact H1
  isplitl [H2]; · rw [b2]; iexact H2
  isplitl [H3]; · rw [b3]; iexact H3
  isplitl [H4]; · rw [b4]; iexact H4
  isplitl [H5]; · rw [b5]; iexact H5
  by_cases hk : t.val % 8 = 7
  · rw [idle_6_last t hk]
    dsimp only
    rw [after_6, ← outAfter_eq (blocks m c) t.val (grid0.coords t) e0 e1 e2 ht hI hk ((dats m 0 c).before 6 t d6)]
    iexact H6
  · rw [idle_6_before t hk, show (win0 6).flush t = false from Bool.eq_false_iff.2 fun h' => hk ((flush0_6 t).1 h')]
    dsimp only
    rw [outAfter_idle (blocks m c) t.val (grid0.coords t) e0 e1 e2 ht hI hk ((dats m 0 c).before 6 t d6)]
    iexists d6
    iexact H6

/-- At the region's entry the scratches hold anything: the invariant before the first point. -/
theorem enter (c : Dev nD) : (Pipeline.ΦA spec0 c : sProp 𝕄) ⊢ (dats m 0 c).Φ 0 := by
  rw [show (dats m 0 c).Φ 0 = PhiS m c 0 (Nat.zero_le _) by dsimp only [dats]; rfl]
  unfold Pipeline.ΦA PhiS
  rw [scopedRest0_eq]
  iintro ⟨⟨⟨%g, Hg⟩, ⟨%h, Hh⟩, ⟨%a, Ha⟩⟩, Hr⟩
  isplitl [Hg Hh Ha]
  · iexists g; iexists h; iexists a
    isplitr; · ipureintro; exact Inv.zero (blocks m c) g h a
    isplitl [Hg]; · rw [owns_whole_eq]; iexists g; isplitr; · ipureintro; rfl
                    iexact Hg
    isplitl [Hh]; · rw [owns_whole_eq]; iexists h; isplitr; · ipureintro; rfl
                    iexact Hh
    rw [owns_whole_eq]; iexists a; isplitr; · ipureintro; rfl
    iexact Ha
  · iexact Hr

/-- At the region's end the scratches are given back. -/
theorem leave (c : Dev nD) : (dats m 0 c).Φ (Fin.last cfg0.N) ⊢ (Pipeline.ΦA spec0 c : sProp 𝕄) := by
  rw [show (dats m 0 c).Φ (Fin.last cfg0.N) = PhiS m c cfg0.N le_rfl by dsimp only [dats]; rfl]
  unfold Pipeline.ΦA PhiS
  rw [scopedRest0_eq]
  simp only [owns_whole_eq]
  iintro ⟨⟨%g', %h', %a', -, ⟨%g, -, Hg⟩, ⟨%h, -, Hh⟩, ⟨%a, -, Ha⟩⟩, Hr⟩
  isplitl [Hg Hh Ha]
  · isplitl [Hg]; · iexists g; iexact Hg
    isplitl [Hh]; · iexists h; iexact Hh
    iexists a; iexact Ha
  · iexact Hr

/-- The program runs to the library's account of its arrays, every semaphore counter back at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (fun c w => A_eq m c w)
    (enter m) (leave m) _ fun _ h => h

end Cert.KernelIdeal.Body

end
-- ==== Proof.Quiet.lean ====
/-
  The frame claim of the program: it runs, its arguments end as they were, and every semaphore counter is back at zero.
-/
module

public import proofs.«01_k».proof.Proof.Run
public import Idealize.ShloMosaic.Lib.Claim

@[expose] public section

noncomputable section

namespace Cert.KernelIdeal.Body

open Cert.KernelIdeal Cert.KernelIdeal.Gen
open Idealize.ShloMosaic Idealize.ShloMosaic.TcCoe
open Idealize.SL.Sem

variable {F : FTy → Type} [FloatOps F]

/-- Every weakly fair execution terminates without a fault, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (fun c w => A_eq m c w) ((θ_run defs _ _).mono (fun _ h => h.1) (run m ρ)))
    ((θ_run defs _ _).mono (fun _ h => h.2) (run m ρ))

end Cert.KernelIdeal.Body

end
-- ==== Proof.BitsDequantLoop.lean ====
/-
  The dequantisation loop of the kernel: thirty-two trips, each of which reads one scale row and thirty-two rows of packed
  codes and stores sixty-four rows of weights into the weight scratch.
-/
module

public import proofs.«01_k».proof.Proof.Gen.Kernel.Loops
public import Idealize.ShloMosaic.Lib.VecWindow

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The sixty-four weight rows one trip stores, from the scale block and the packed block. -/
def deqRows (i : grid0.Coords) (h : k0_cond1 i = 1#1) (w : Vec F S1024x512 .i8) (s : Vec F S256x512 .f32)
    (t : Fin k0_t1_loop.trips) : FVec F S64x512 .bf16 :=
  let a : Vec F S1x512 .f32 := VecWindow.window s (k0_off1 i t) S1x512.size (k0_off1_inb i t h)
  let v : Vec F S32x512 .i8 := VecWindow.window w (k0_off2 t) S32x512.size (k0_off2_inb i t h)
  k0_pay1 (k0_pay6 a) (k0_pay8 v) (k0_pay9 v) (k0_pay10 v) (k0_pay11 v) (k0_pay12 v) (k0_pay13 v)

/-- The weight scratch before trip `n` of the loop, from what it held at the loop's start. -/
def wdLoop (i : grid0.Coords) (h : k0_cond1 i = 1#1) (w : Vec F S1024x512 .i8) (s : Vec F S256x512 .f32)
    (g : Vec F S16384x512 .bf16) : ℕ → Vec F S16384x512 .bf16
  | 0 => g
  | n + 1 => if hn : n < k0_t1_loop.trips then
      VecWindow.put (wdLoop i h w s g n) (k0_off3 i ⟨n, hn⟩) S64x512.size (deqRows i h w s ⟨n, hn⟩)
    else wdLoop i h w s g n

theorem wdLoop_succ (i : grid0.Coords) (h : k0_cond1 i = 1#1) (w : Vec F S1024x512 .i8) (s : Vec F S256x512 .f32)
    (g : Vec F S16384x512 .bf16) (t : Fin k0_t1_loop.trips) :
    wdLoop i h w s g (t.val + 1) = VecWindow.put (wdLoop i h w s g t.val) (k0_off3 i t) S64x512.size (deqRows i h w s t) := by
  rw [wdLoop.eq_2]; exact dif_pos t.isLt

set_option warn.classDefReducibility false in
/-- The loop by its invariant: before trip `k` the weight scratch reads as `wdLoop … k` of what it read at the start. -/
@[sl_loop] def loopInvHand (𝒱 : Variants) (c : Dev nD) (bd : Option 𝒱.V) (E : Set ℕ) (i : grid0.Coords) (arg3 : Memref sig .tc .vmem S768x2048 .bf16) (harg3 : arg3.IsWhole) (arg4 : Memref sig .tc .vmem S1024x512 .i8) (harg4 : arg4.IsWhole) (arg5 : Memref sig .tc .vmem S256x512 .f32) (harg5 : arg5.IsWhole) (arg6 : Memref sig .tc .vmem S112x2048 .bf16) (harg6 : arg6.IsWhole) (arg7 : Memref sig .tc .vmem S112x512 .bf16) (harg7 : arg7.IsWhole) (arg8 : Memref sig .tc .vmem S768x1 .i32) (harg8 : arg8.IsWhole) (arg9 : Memref sig .tc .vmem S768x512 .bf16) (harg9 : arg9.IsWhole) (arg10 : Memref sig .tc .vmem S16384x512 .bf16) (harg10 : arg10.IsWhole) (arg11 : Memref sig .tc .vmem S3840x128 .f32) (harg11 : arg11.IsWhole) (arg12 : Memref sig .tc .vmem S768x512 .f32) (harg12 : arg12.IsWhole) (arg2 : BitVec 32) (k0_h1 : k0_cond1 i = 1#1)
    (X_arg4 : BufTy.Contents (Elt F) arg4.view.ty) (X_arg5 : BufTy.Contents (Elt F) arg5.view.ty) (G_arg10 : BufTy.Contents (Elt F) arg10.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 k0_h1 where
  inv k _ := iprop((arg4.view.loc (c : Thread nD τ) ↦[arg4.view.set]{fullShare} X_arg4) ∗ (arg5.view.loc (c : Thread nD τ) ↦[arg5.view.set]{fullShare} X_arg5)
    ∗ (∃ f, (arg10.view.loc (c : Thread nD τ) ↦[arg10.view.set]{fullShare} f)
      ∗ ⌜arg10.view.read (Elt F) f = wdLoop i k0_h1 (arg4.view.read (Elt F) X_arg4) (arg5.view.read (Elt F) X_arg5) (arg10.view.read (Elt F) G_arg10) k⌝))
  step k acc := by
    have hk : k.val < 32 := Nat.lt_of_lt_of_le k.isLt k0_t1_abs.2.1
    iintro ⟨H4, H5, ⟨%f, H10, %hf⟩⟩
    sl_unfold [k0_t1_body]
    simp only [k0_part1_eq_skeleton]
    sl_exec
    sl_step
    isplitl [H4]; · iexact H4
    isplitl [H5]; · iexact H5
    iexists _; isplitl [H10]; · iexact H10
    ipureintro
    rw [View.read_writes_cons_put _ _ _ _ _ rfl, View.writes_nil, hf, wdLoop_succ]
    rfl

end Cert.Kernel.Body

end
-- ==== Proof.BitsBody.lean ====
/-
  One call of the kernel's body: what it leaves in the weight scratch, the accumulator, the low-rank scratch and the output
  block, as functions of what it finds.
-/
module

public import proofs.«01_k».proof.Proof.BitsDequantLoop
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The weight scratch after the body: at the first row tile the loop's rows are new, elsewhere it is as found. -/
def wdAfter (i : grid0.Coords) (x1 : Vec F S1024x512 .i8) (x2 : Vec F S256x512 .f32) (g : Vec F S16384x512 .bf16) :
    Vec F S16384x512 .bf16 :=
  if h : k0_cond1 i = 1#1 then wdLoop i h x1 x2 g k0_t1_loop.trips else g

/-- The accumulator after the body: cleared at the first step, and one block product added. -/
def accAfter (i : grid0.Coords) (x0 : Vec F S768x2048 .bf16) (x1 : Vec F S1024x512 .i8) (x2 : Vec F S256x512 .f32)
    (g : Vec F S16384x512 .bf16) (a : Vec F S768x512 .f32) : Vec F S768x512 .f32 :=
  k0_pay3 (if k0_cond4 i = 1#1 then k0_pay2 else a) x0
    (VecWindow.window (wdAfter i x1 x2 g) (k0_off4 i) S2048x512.size (k0_off4_inb i))

/-- The low-rank scratch with its row tile cleared at the first step. -/
def hClear (i : grid0.Coords) (h : Vec F S3840x128 .f32) : Vec F S3840x128 .f32 :=
  if k0_cond4 i = 1#1 then VecWindow.put h (k0_off5 i) S768x128.size (k0_pay4 (F := F)) else h

/-- The low-rank scratch after the body: at the first column tile one block product is added to its row tile. -/
def hAfter (i : grid0.Coords) (x0 : Vec F S768x2048 .bf16) (x3 : Vec F S112x2048 .bf16) (h : Vec F S3840x128 .f32) :
    Vec F S3840x128 .f32 :=
  if h3 : k0_cond3 i = 1#1 then
    VecWindow.put (hClear i h) (k0_off6 i) S768x112.size
      (k0_pay5 (VecWindow.window (hClear i h) (k0_off6 i) S768x112.size (k0_off6_inb i h3)) x0 x3)
  else h

/-- The output block after the body: written at the last step, elsewhere as found. -/
def outAfter (i : grid0.Coords) (x0 : Vec F S768x2048 .bf16) (x1 : Vec F S1024x512 .i8) (x2 : Vec F S256x512 .f32)
    (x3 : Vec F S112x2048 .bf16) (x4 : Vec F S112x512 .bf16) (x5 : Vec F S768x1 .i32) (d : Vec F S768x512 .bf16)
    (g : Vec F S16384x512 .bf16) (h : Vec F S3840x128 .f32) (a : Vec F S768x512 .f32) : Vec F S768x512 .bf16 :=
  if h5 : k0_cond5 i = 1#1 then
    k0_pay14 x5 (VecWindow.window (hAfter i x0 x3 h) (k0_off7 i) S768x128.size (k0_off7_inb i h5)) x4 (accAfter i x0 x1 x2 g a)
  else d

/-- The two tests on the last grid coordinate exclude each other. -/
theorem not_cond5_of_cond4 (i : grid0.Coords) (h4 : k0_cond4 i = 1#1) : ¬ k0_cond5 i = 1#1 := by
  have key : ∀ k : Fin 8, Scalar.cmpi .ne (Scalar.extui (Scalar.cmpi .eq (BitVec.ofNat 32 k.val) 0#32) : BitVec 32) 0#32 = 1#1 →
      ¬ Scalar.cmpi .ne (Scalar.extui (Scalar.cmpi .eq (BitVec.ofNat 32 k.val) 7#32) : BitVec 32) 0#32 = 1#1 := by decide
  exact key (i 2) h4

/-- A load inside the one store made so far reads a window of the contents with that store put in. -/
theorem readCov_put {sig : RefSig} {κ : Kind} {sp : Space} {s : Shape} {e : EltTy} {Val : EltTy → Type} [∀ e, Nonempty (Val e)]
    (v : View sig κ sp s e) (x : s.Idx → Val e) {o₁ z₁ o₂ z₂ : Fin s.rank → ℕ} (inb₁ : ∀ a, o₁ a + z₁ a ≤ s.size a)
    (inb₂ : ∀ a, o₂ a + z₂ a ≤ s.size a) (w : (Rect.unit o₁ z₁ inb₁).shape.Idx → Val e)
    (h : ∀ a, o₁ a ≤ o₂ a ∧ o₂ a + z₂ a ≤ o₁ a + z₁ a) :
    v.readCov [⟨Rect.unit o₁ z₁ inb₁, w⟩] (Rect.unit o₂ z₂ inb₂).toLoadRect = VecWindow.window (VecWindow.put x o₁ z₁ w) o₂ z₂ inb₂ := by
  show v.readAt Val (Rect.unit o₂ z₂ inb₂).toLoadRect (v.writes Val v.junk [⟨Rect.unit o₁ z₁ inb₁, w⟩]) = _
  rw [View.readAt_unit v _ inb₂ rfl inb₂, View.read_writes_cons_put v _ inb₁ w [] rfl,
    VecWindow.window_put_of_inside _ _ _ _ _ _ _ h, VecWindow.window_put_of_inside _ _ _ _ _ _ _ h]

theorem win4_congr (i : grid0.Coords) {z z' : Vec F S16384x512 .bf16} (h : z = z') :
    (VecWindow.window z (k0_off4 i) S2048x512.size (k0_off4_inb i) : Vec F S2048x512 .bf16)
      = VecWindow.window z' (k0_off4 i) S2048x512.size (k0_off4_inb i) := by rw [h]

theorem win7_congr (i : grid0.Coords) (h5 : k0_cond5 i = 1#1) {z z' : Vec F S3840x128 .f32} (h : z = z') :
    (VecWindow.window z (k0_off7 i) S768x128.size (k0_off7_inb i h5) : Vec F S768x128 .f32)
      = VecWindow.window z' (k0_off7 i) S768x128.size (k0_off7_inb i h5) := by rw [h]

theorem put6_congr (i : grid0.Coords) {z z' : Vec F S3840x128 .f32} {w w' : Vec F S768x112 .f32} (h : z = z') (h' : w = w') :
    (VecWindow.put z (k0_off6 i) S768x112.size w : Vec F S3840x128 .f32) = VecWindow.put z' (k0_off6 i) S768x112.size w' := by
  rw [h, h']

theorem pay3_congr {p p' : Vec F S768x512 .f32} {q q' : Vec F S768x2048 .bf16} {r r' : Vec F S2048x512 .bf16}
    (hp : p = p') (hq : q = q') (hr : r = r') : k0_pay3 p q r = k0_pay3 p' q' r' := by rw [hp, hq, hr]

theorem pay5_congr {p p' : Vec F S768x112 .f32} {q q' : Vec F S768x2048 .bf16} {r r' : Vec F S112x2048 .bf16}
    (hp : p = p') (hq : q = q') (hr : r = r') : k0_pay5 p q r = k0_pay5 p' q' r' := by rw [hp, hq, hr]

theorem pay14_congr {p p' : Vec F S768x1 .i32} {q q' : Vec F S768x128 .f32} {r r' : Vec F S112x512 .bf16} {t t' : Vec F S768x512 .f32}
    (hp : p = p') (hq : q = q') (hr : r = r') (ht : t = t') : k0_pay14 p q r t = k0_pay14 p' q' r' t' := by rw [hp, hq, hr, ht]

set_option maxHeartbeats 8000000 in
/-- The body on whole buffers runs to the buffers it leaves: the inputs as found, the scratches and the output block at the
    functions above. -/
theorem sound_kernel (c : Dev nD) (E : Set ℕ) (i : grid0.Coords) (arg3 : Memref sig .tc .vmem S768x2048 .bf16) (harg3 : arg3.IsWhole) (arg4 : Memref sig .tc .vmem S1024x512 .i8) (harg4 : arg4.IsWhole) (arg5 : Memref sig .tc .vmem S256x512 .f32) (harg5 : arg5.IsWhole) (arg6 : Memref sig .tc .vmem S112x2048 .bf16) (harg6 : arg6.IsWhole) (arg7 : Memref sig .tc .vmem S112x512 .bf16) (harg7 : arg7.IsWhole) (arg8 : Memref sig .tc .vmem S768x1 .i32) (harg8 : arg8.IsWhole) (arg9 : Memref sig .tc .vmem S768x512 .bf16) (harg9 : arg9.IsWhole) (arg10 : Memref sig .tc .vmem S16384x512 .bf16) (harg10 : arg10.IsWhole) (arg11 : Memref sig .tc .vmem S3840x128 .f32) (harg11 : arg11.IsWhole) (arg12 : Memref sig .tc .vmem S768x512 .f32) (harg12 : arg12.IsWhole)
    (x0 : Vec F S768x2048 .bf16) (x1 : Vec F S1024x512 .i8) (x2 : Vec F S256x512 .f32) (x3 : Vec F S112x2048 .bf16) (x4 : Vec F S112x512 .bf16) (x5 : Vec F S768x1 .i32) (d : Vec F S768x512 .bf16) (g : Vec F S16384x512 .bf16) (h : Vec F S3840x128 .f32) (a : Vec F S768x512 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare d
        ∗ owns (c : Thread nD τ) arg10 fullShare g
        ∗ owns (c : Thread nD τ) arg11 fullShare h
        ∗ owns (c : Thread nD τ) arg12 fullShare a
        ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare x4
          ∗ owns (c : Thread nD τ) arg8 fullShare x5
          ∗ owns (c : Thread nD τ) arg9 fullShare (outAfter i x0 x1 x2 x3 x4 x5 d g h a)
          ∗ owns (c : Thread nD τ) arg10 fullShare (wdAfter i x1 x2 g)
          ∗ owns (c : Thread nD τ) arg11 fullShare (hAfter i x0 x3 h)
          ∗ owns (c : Thread nD τ) arg12 fullShare (accAfter i x0 x1 x2 g a)) -∗ K ⟨⟩))
      ⊢ wp frame (wpE (defs₀ (F := F)) Variants.none c none) E (cc0_body i arg3 harg3 arg4 harg4 arg5 harg5 arg6 harg6 arg7 harg7 arg8 harg8 arg9 harg9 arg10 harg10 arg11 harg11 arg12 harg12) K := by
  simp only [cc0_body_eq_skeleton]; unfold cc0_body_skel
  simp only [k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf3 hf4 hf5 hf6 hf7 hf8 hf9 hf10 hf11 hf12
  by_cases h1 : k0_cond1 i = 1#1 <;> by_cases h4 : k0_cond4 i = 1#1 <;> by_cases h3 : k0_cond3 i = 1#1 <;> by_cases h5 : k0_cond5 i = 1#1
  all_goals
    try exact absurd h5 (not_cond5_of_cond4 i h4)
  all_goals
    sl_exec (disch := first | exact h1 | exact h3 | exact h4 | exact h5)
    sl_step
    iapply Hk
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]
    · iexists _; isplitr; swap; · iexact H9
      ipureintro
      sl_unfold_words
      unfold outAfter
      first
      | rw [dif_neg h5]
      | (rw [dif_pos h5]
         refine (View.read_writes_full _ _ _ _ _).trans (pay14_congr (View.readAt_full _ _ _) ?_ (View.readAt_full _ _ _) ?_)
         · refine (View.readAt_unit _ _ _ rfl (k0_off7_inb i h5)).trans (win7_congr i h5 ?_)
           unfold hAfter hClear
           first
           | rw [dif_neg h3]
           | (rw [dif_pos h3, if_neg h4]
              refine (View.read_writes_cons_put _ _ _ _ _ rfl).trans ?_
              exact put6_congr i rfl
                (pay5_congr (View.readAt_unit _ _ _ rfl (k0_off6_inb i h3)) (View.readAt_full _ _ _) (View.readAt_full _ _ _)))
         · refine (View.readCov_full _ _ _ _ _).trans ?_
           unfold accAfter wdAfter
           rw [if_neg h4]
           refine pay3_congr (View.readAt_full _ _ _) (View.readAt_full _ _ _) ((View.readAt_unit _ _ _ rfl (k0_off4_inb i)).trans ?_)
           first
           | (rw [dif_neg h1]; done)
           | (rw [dif_neg h1]; rfl)
           | (rw [dif_pos h1]; exact win4_congr i (by assumption)))
    isplitl [H10]
    · iexists _; isplitr; swap; · iexact H10
      ipureintro
      unfold wdAfter
      first
      | rw [dif_neg h1]
      | (rw [dif_pos h1]; assumption)
    isplitl [H11]
    · iexists _; isplitr; swap; · iexact H11
      ipureintro
      sl_unfold_words
      unfold hAfter hClear
      first
      | rw [dif_neg h3]
      | (rw [dif_pos h3, if_neg h4]
         refine (View.read_writes_cons_put _ _ _ _ _ rfl).trans ?_
         exact put6_congr i rfl
           (pay5_congr (View.readAt_unit _ _ _ rfl (k0_off6_inb i h3)) (View.readAt_full _ _ _) (View.readAt_full _ _ _)))
      | (rw [dif_pos h3, if_pos h4]
         refine (View.read_writes_cons_put _ _ _ _ _ rfl).trans ?_
         refine put6_congr i (View.read_writes_cons_put _ _ _ _ _ rfl)
           (pay5_congr (readCov_put _ (arg11.view.read (Elt F) f11) _ (k0_off6_inb i h3) _ ?_) (View.readAt_full _ _ _) (View.readAt_full _ _ _))
         exact Fin.forall_fin_two.mpr ⟨⟨le_rfl, le_rfl⟩, ⟨le_rfl, show 0 + 112 ≤ 0 + 128 by omega⟩⟩)
    iexists _; isplitr; swap; · iexact H12
    ipureintro
    sl_unfold_words
    refine (View.read_writes_full _ _ _ _ _).trans ?_
    unfold accAfter wdAfter
    refine pay3_congr ?_ (View.readAt_full _ _ _) ((View.readAt_unit _ _ _ rfl (k0_off4_inb i)).trans ?_)
    · first
      | (rw [if_neg h4]; exact View.readAt_full _ _ _)
      | (rw [if_pos h4]; exact View.readCov_full _ _ _ _ _)
    · first
      | (rw [dif_neg h1]; done)
      | (rw [dif_neg h1]; rfl)
      | (rw [dif_pos h1]; exact win4_congr i (by assumption))

end Cert.Kernel.Body

end
-- ==== Proof.BitsTrajectory.lean ====
/-
  What the three scratches hold before each grid point, as functions of the blocks the windows stage: the weight scratch row
  by row, the low-rank scratch row tile by row tile, and the accumulator.
-/
module

public import proofs.«01_k».proof.Proof.BitsBody
public import Idealize.ShloMosaic.Lib.Pointwise

@[expose] public section

set_option maxRecDepth 16384

noncomputable section

namespace Cert.Kernel.Body

open Cert.Kernel Cert.Kernel.Gen
open Idealize.ShloMosaic Idealize.ShloMosaic.TcCoe Idealize.ShloMosaic.Tactic
open Idealize.SL.Sem

variable {F : FTy → Type} [FloatOps F]

/-! ## The grid coordinates, the tests and the offsets in closed form -/

theorem trips_eq : k0_t1_loop.trips = 32 := by decide +kernel

theorem cond1_iff (i : grid0.Coords) : k0_cond1 i = 1#1 ↔ (i 1).val = 0 :=
  (by decide : ∀ k : Fin 5, Scalar.cmpi .ne (Scalar.extui (Scalar.cmpi .eq (BitVec.ofNat 32 k.val) 0#32) : BitVec 32) 0#32 = 1#1 ↔ k.val = 0) (i 1)

theorem cond3_iff (i : grid0.Coords) : k0_cond3 i = 1#1 ↔ (i 0).val = 0 :=
  (by decide : ∀ k : Fin 10, Scalar.cmpi .ne (Scalar.extui (Scalar.cmpi .eq (BitVec.ofNat 32 k.val) 0#32) : BitVec 32) 0#32 = 1#1 ↔ k.val = 0) (i 0)

theorem cond4_iff (i : grid0.Coords) : k0_cond4 i = 1#1 ↔ (i 2).val = 0 :=
  (by decide : ∀ k : Fin 8, Scalar.cmpi .ne (Scalar.extui (Scalar.cmpi .eq (BitVec.ofNat 32 k.val) 0#32) : BitVec 32) 0#32 = 1#1 ↔ k.val = 0) (i 2)

theorem cond5_iff (i : grid0.Coords) : k0_cond5 i = 1#1 ↔ (i 2).val = 7 :=
  (by decide : ∀ k : Fin 8, Scalar.cmpi .ne (Scalar.extui (Scalar.cmpi .eq (BitVec.ofNat 32 k.val) 7#32) : BitVec 32) 0#32 = 1#1 ↔ k.val = 7) (i 2)

theorem off1_eq (i : grid0.Coords) (t : Fin k0_t1_loop.trips) : k0_off1 i t = ![(i 2).val * 32 + t.val, 0] :=
  congrArg (fun n : ℕ => (![n, 0] : Fin 2 → ℕ))
    ((by decide +kernel : ∀ k : Fin 8, ∀ t : Fin k0_t1_loop.trips,
      (Scalar.indexCast (Scalar.addi (Scalar.muli (BitVec.ofNat 32 k.val) 32#32) (Scf.iv 0#32 1#32 t))).toNat = k.val * 32 + t.val) (i 2) t)

theorem off2_eq (t : Fin k0_t1_loop.trips) : k0_off2 t = ![t.val * 32, 0] :=
  congrArg (fun n : ℕ => (![n, 0] : Fin 2 → ℕ))
    ((by decide +kernel : ∀ t : Fin k0_t1_loop.trips,
      (Scalar.indexCast (Scalar.muli (Scf.iv 0#32 1#32 t) 32#32)).toNat = t.val * 32) t)

theorem off3_eq (i : grid0.Coords) (t : Fin k0_t1_loop.trips) : k0_off3 i t = ![(i 2).val * 2048 + t.val * 64, 0] :=
  congrArg (fun n : ℕ => (![n, 0] : Fin 2 → ℕ))
    ((by decide +kernel : ∀ k : Fin 8, ∀ t : Fin k0_t1_loop.trips,
      (Scalar.indexCast (Scalar.muli (Scalar.addi (Scalar.muli (BitVec.ofNat 32 k.val) 32#32) (Scf.iv 0#32 1#32 t)) 64#32)).toNat
        = k.val * 2048 + t.val * 64) (i 2) t)

theorem off4_eq (i : grid0.Coords) : k0_off4 i = ![(i 2).val * 2048, 0] :=
  congrArg (fun n : ℕ => (![n, 0] : Fin 2 → ℕ))
    ((by decide +kernel : ∀ k : Fin 8, (Scalar.indexCast (Scalar.muli (BitVec.ofNat 32 k.val) 2048#32)).toNat = k.val * 2048) (i 2))

theorem rowOff_eq (k : Fin 5) : (Scalar.indexCast (Scalar.muli (BitVec.ofNat 32 k.val) 768#32)).toNat = k.val * 768 :=
  (by decide +kernel : ∀ k : Fin 5, (Scalar.indexCast (Scalar.muli (BitVec.ofNat 32 k.val) 768#32)).toNat = k.val * 768) k

theorem off5_eq (i : grid0.Coords) : k0_off5 i = ![(i 1).val * 768, 0] :=
  congrArg (fun n : ℕ => (![n, 0] : Fin 2 → ℕ)) (rowOff_eq (i 1))
theorem off6_eq (i : grid0.Coords) : k0_off6 i = ![(i 1).val * 768, 0] :=
  congrArg (fun n : ℕ => (![n, 0] : Fin 2 → ℕ)) (rowOff_eq (i 1))
theorem off7_eq (i : grid0.Coords) : k0_off7 i = ![(i 1).val * 768, 0] :=
  congrArg (fun n : ℕ => (![n, 0] : Fin 2 → ℕ)) (rowOff_eq (i 1))

/-- Grid point `t` is column tile `t / 40`, row tile `t / 8 % 5`, contraction step `t % 8`. -/
theorem coords_val (t : Fin grid0.N) :
    (grid0.coords t 0).val = t.val / 40 ∧ (grid0.coords t 1).val = t.val / 8 % 5 ∧ (grid0.coords t 2).val = t.val % 8 :=
  (by decide +kernel : ∀ t : Fin grid0.N,
    (grid0.coords t 0).val = t.val / 40 ∧ (grid0.coords t 1).val = t.val / 8 % 5 ∧ (grid0.coords t 2).val = t.val % 8) t

/-! ## Windows and stores of whole rows, read at a row and a column -/

/-- A row block of a rank-2 vector, read at a row and a column. -/
theorem window_rows {α : Type} {R C r c : ℕ} (x : (⟨2, ![R, C]⟩ : Shape).Idx → α) {off : Fin 2 → ℕ} {o : ℕ}
    (inb : ∀ a, off a + (![r, c] : Fin 2 → ℕ) a ≤ (![R, C] : Fin 2 → ℕ) a) (ho : off = ![o, 0]) (y : Fin r) (q : Fin c)
    (hy : o + y.val < R) (hq : q.val < C) :
    VecWindow.window (s := ⟨2, ![R, C]⟩) x off ![r, c] inb (ix2 y q) = x (ix2 ⟨o + y.val, hy⟩ ⟨q.val, hq⟩) := by
  subst ho
  refine congrArg x (funext (Fin.forall_fin_two.mpr ⟨Fin.ext ?_, Fin.ext ?_⟩))
  · show o + 1 * y.val = o + y.val
    omega
  · show 0 + 1 * q.val = q.val
    omega

/-- A store of a row block, read inside it. -/
theorem put_rows_mem {α : Type} {R C r c : ℕ} (x : (⟨2, ![R, C]⟩ : Shape).Idx → α) {off : Fin 2 → ℕ} {o : ℕ}
    (w : (⟨2, ![r, c]⟩ : Shape).Idx → α) (ho : off = ![o, 0]) (y : Fin R) (q : Fin C) (h1 : o ≤ y.val) (h2 : y.val - o < r) (h3 : q.val < c) :
    VecWindow.put (s := ⟨2, ![R, C]⟩) x off ![r, c] w (ix2 y q) = w (ix2 ⟨y.val - o, h2⟩ ⟨q.val, h3⟩) := by
  subst ho
  have h : ∀ a : Fin 2, (![o, 0] : Fin 2 → ℕ) a ≤ ((ix2 y q : (⟨2, ![R, C]⟩ : Shape).Idx) a).val
      ∧ ((ix2 y q : (⟨2, ![R, C]⟩ : Shape).Idx) a).val < (![o, 0] : Fin 2 → ℕ) a + (![r, c] : Fin 2 → ℕ) a :=
    Fin.forall_fin_two.mpr ⟨⟨h1, show y.val < o + r by omega⟩, ⟨Nat.zero_le _, show q.val < 0 + c by omega⟩⟩
  refine (dif_pos h).trans (congrArg w (funext (Fin.forall_fin_two.mpr ⟨Fin.ext rfl, Fin.ext ?_⟩)))
  show q.val - 0 = q.val
  omega

/-- A store of a row block, read outside it. -/
theorem put_rows_not_mem {α : Type} {R C r c : ℕ} (x : (⟨2, ![R, C]⟩ : Shape).Idx → α) {off : Fin 2 → ℕ} {o : ℕ}
    (w : (⟨2, ![r, c]⟩ : Shape).Idx → α) (ho : off = ![o, 0]) (y : Fin R) (q : Fin C)
    (h : y.val < o ∨ o + r ≤ y.val ∨ c ≤ q.val) :
    VecWindow.put (s := ⟨2, ![R, C]⟩) x off ![r, c] w (ix2 y q) = x (ix2 y q) := by
  subst ho
  refine dif_neg fun hall => ?_
  have h0 : o ≤ y.val ∧ y.val < o + r := hall 0
  have h1 : 0 ≤ q.val ∧ q.val < 0 + c := hall 1
  omega

/-! ## The scratches' contents as functions of the blocks -/

/-- Sixty-four weight rows from one scale row and thirty-two packed rows. -/
def deq64 (a : Vec F S1x512 .f32) (v : Vec F S32x512 .i8) : FVec F S64x512 .bf16 :=
  k0_pay1 (k0_pay6 a) (k0_pay8 v) (k0_pay9 v) (k0_pay10 v) (k0_pay11 v) (k0_pay12 v) (k0_pay13 v)

/-- Row `r` of a scale block. -/
def scaleRow (s : Vec F S256x512 .f32) (r : ℕ) : Vec F S1x512 .f32 :=
  fun y => s (ix2 ⟨r % 256, Nat.mod_lt _ (by decide)⟩ (y 1))

/-- The thirty-two rows of a packed block from row `32 t` on. -/
def packedRows (w : Vec F S1024x512 .i8) (t : ℕ) : Vec F S32x512 .i8 :=
  fun y => w (ix2 ⟨(t * 32 + (y 0).val) % 1024, Nat.mod_lt _ (by decide)⟩ (y 1))

/-- Weight row `r` (of two thousand and forty-eight) of contraction step `k`, at column `q`, from the step's packed block and scale block. -/
def deqAt (w : Vec F S1024x512 .i8) (s : Vec F S256x512 .f32) (k r : ℕ) (q : Fin 512) : F .bf16 :=
  deq64 (scaleRow s (k * 32 + r / 64)) (packedRows w (r / 64)) (ix2 ⟨r % 64, Nat.mod_lt _ (by decide)⟩ q)

/-- The rows one trip stores are `deqAt`. -/
theorem deqRows_eq (i : grid0.Coords) (h : k0_cond1 i = 1#1) (w : Vec F S1024x512 .i8) (s : Vec F S256x512 .f32)
    (t : Fin k0_t1_loop.trips) (y : Fin 64) (q : Fin 512) :
    deqRows i h w s t (ix2 y q) = deqAt w s (i 2).val (t.val * 64 + y.val) q := by
  have ht : t.val < 32 := Nat.lt_of_lt_of_eq t.isLt trips_eq
  have hk : (i 2).val < 8 := (i 2).isLt
  have e1 : (t.val * 64 + y.val) / 64 = t.val := by omega
  have e2 : (t.val * 64 + y.val) % 64 = y.val := by omega
  have ha : (VecWindow.window s (k0_off1 i t) S1x512.size (k0_off1_inb i t h) : Vec F S1x512 .f32) = scaleRow s ((i 2).val * 32 + t.val) := by
    funext z
    idx_vars z
    refine (window_rows s (k0_off1_inb i t h) (off1_eq i t) z0 z1 (by omega) z1.isLt).trans (congrArg s ?_)
    refine (ix2_inj ..).2 ⟨Fin.ext ?_, rfl⟩
    show (i 2).val * 32 + t.val + z0.val = ((i 2).val * 32 + t.val) % 256
    omega
  have hv : (VecWindow.window w (k0_off2 t) S32x512.size (k0_off2_inb i t h) : Vec F S32x512 .i8) = packedRows w t.val := by
    funext z
    idx_vars z
    refine (window_rows w (k0_off2_inb i t h) (off2_eq t) z0 z1 (by omega) z1.isLt).trans (congrArg w ?_)
    refine (ix2_inj ..).2 ⟨Fin.ext ?_, rfl⟩
    show t.val * 32 + z0.val = (t.val * 32 + z0.val) % 1024
    omega
  unfold deqAt
  rw [show deqRows i h w s t = deq64 (scaleRow s ((i 2).val * 32 + t.val)) (packedRows w t.val) by
    rw [← ha, ← hv]; rfl]
  simp only [e1, e2]

/-- The weight scratch before trip `n` of the loop: the rows of the trips run are new, the others as found. -/
theorem wdLoop_apply (i : grid0.Coords) (h : k0_cond1 i = 1#1) (w : Vec F S1024x512 .i8) (s : Vec F S256x512 .f32)
    (g : Vec F S16384x512 .bf16) (n : ℕ) (hn : n ≤ 32) (r : Fin 16384) (q : Fin 512) :
    wdLoop i h w s g n (ix2 r q)
      = if (i 2).val * 2048 ≤ r.val ∧ r.val < (i 2).val * 2048 + n * 64 then deqAt w s (i 2).val (r.val - (i 2).val * 2048) q
        else g (ix2 r q) := by
  induction n with
  | zero => rw [if_neg (by omega)]; rfl
  | succ n ih =>
    have hn' : n < k0_t1_loop.trips := by rw [trips_eq]; omega
    rw [show wdLoop i h w s g (n + 1) = _ from wdLoop_succ i h w s g ⟨n, hn'⟩]
    by_cases hr : (i 2).val * 2048 + n * 64 ≤ r.val ∧ r.val < (i 2).val * 2048 + (n + 1) * 64
    · rw [if_pos (by omega)]
      refine (put_rows_mem (r := 64) (c := 512) _ _ (off3_eq i ⟨n, hn'⟩) r q hr.1 (by show r.val - ((i 2).val * 2048 + n * 64) < 64; omega) q.isLt).trans ?_
      refine (deqRows_eq i h w s ⟨n, hn'⟩ _ _).trans ?_
      refine congrArg (fun z => deqAt w s (i 2).val z q) ?_
      show n * 64 + (r.val - ((i 2).val * 2048 + n * 64)) = _
      omega
    · refine (put_rows_not_mem (r := 64) (c := 512) _ _ (off3_eq i ⟨n, hn'⟩) r q (by show r.val < (i 2).val * 2048 + n * 64 ∨ (i 2).val * 2048 + n * 64 + 64 ≤ r.val ∨ _; omega)).trans ?_
      rw [ih (by omega)]
      by_cases hs : (i 2).val * 2048 ≤ r.val ∧ r.val < (i 2).val * 2048 + n * 64
      · rw [if_pos hs, if_pos (by omega)]
      · rw [if_neg hs, if_neg (by omega)]

end Cert.Kernel.Body

end
-- ==== Proof.BitsInvariant.lean ====
/-
  The invariant of the grid walk: what the weight scratch, the low-rank scratch and the accumulator hold before grid point `t`,
  that one body call keeps it, and the output block the body leaves at the last contraction step.
-/
module

public import proofs.«01_k».proof.Proof.BitsTrajectory

@[expose] public section

set_option maxRecDepth 16384

noncomputable section

namespace Cert.Kernel.Body

open Cert.Kernel Cert.Kernel.Gen
open Idealize.ShloMosaic Idealize.ShloMosaic.TcCoe Idealize.ShloMosaic.Tactic
open Idealize.SL.Sem

variable {F : FTy → Type} [FloatOps F]

/-- The blocks the input windows stage, at every grid point. -/
structure Blocks (F : FTy → Type) [FloatOps F] where
  x : ℕ → Vec F S768x2048 .bf16
  w : ℕ → Vec F S1024x512 .i8
  s : ℕ → Vec F S256x512 .f32
  la : ℕ → Vec F S112x2048 .bf16
  lb : ℕ → Vec F S112x512 .bf16
  ids : ℕ → Vec F S768x1 .i32

/-- The dequantised weights of column tile `n`: row `r` comes from the packed block staged at contraction step `r / 2048` of the
    first row tile. -/
def wdFull (B : Blocks F) (n : ℕ) : Vec F S16384x512 .bf16 :=
  fun y => deqAt (B.w (n * 40 + (y 0).val / 2048)) (B.s (n * 40 + (y 0).val / 2048)) ((y 0).val / 2048) ((y 0).val % 2048) (y 1)

/-- The two thousand and forty-eight weight rows of contraction step `k`. -/
def wdBlock (B : Blocks F) (n k : ℕ) : Vec F S2048x512 .bf16 :=
  fun y => wdFull B n (ix2 ⟨(k * 2048 + (y 0).val) % 16384, Nat.mod_lt _ (by decide)⟩ (y 1))

/-- The accumulator of column tile `n` after `j` contraction steps from grid point `b` on. -/
def accP (B : Blocks F) (n b : ℕ) : ℕ → Vec F S768x512 .f32
  | 0 => k0_pay2
  | j + 1 => k0_pay3 (accP B n b j) (B.x (b + j)) (wdBlock B n j)

/-- The low-rank products of row tile `m` after `j` contraction steps. -/
def hP (B : Blocks F) (m : ℕ) : ℕ → Vec F S768x112 .f32
  | 0 => fun y => k0_pay4 (ix2 (y 0) ⟨(y 1).val, lt_trans (y 1).isLt (by decide)⟩)
  | j + 1 => k0_pay5 (hP B m j) (B.x (m * 8 + j)) (B.la (m * 8 + j))

/-- A row tile of the low-rank scratch: one hundred and twelve columns of products, the rest cleared. -/
def tileOf (p : Vec F S768x112 .f32) : Vec F S768x128 .f32 :=
  fun y => if h : (y 1).val < 112 then p (ix2 (y 0) ⟨(y 1).val, h⟩) else k0_pay4 y

theorem tileOf_lt (p : Vec F S768x112 .f32) (y : Fin 768) (q : Fin 128) (hq : q.val < 112) :
    tileOf p (ix2 y q) = p (ix2 y ⟨q.val, hq⟩) := by
  unfold tileOf
  exact dif_pos hq

theorem tileOf_ge (p : Vec F S768x112 .f32) (y : Fin 768) (q : Fin 128) (hq : ¬ q.val < 112) :
    tileOf p (ix2 y q) = k0_pay4 (ix2 y q) := by
  unfold tileOf
  exact dif_neg hq

/-- The output block of the row and column tile that ends at grid point `t`. -/
def outP (B : Blocks F) (t : ℕ) : Vec F S768x512 .bf16 :=
  k0_pay14 (B.ids t) (tileOf (hP B (t / 8 % 5) 8)) (B.lb t) (accP B (t / 40) (t - 7) 8)

/-- What the scratches hold before grid point `t`. -/
structure Inv (B : Blocks F) (t : ℕ) (g : Vec F S16384x512 .bf16) (h : Vec F S3840x128 .f32) (a : Vec F S768x512 .f32) : Prop where
  wd : ∀ (r : Fin 16384) (q : Fin 512), (t / 8 % 5 = 0 → r.val < t % 8 * 2048) → g (ix2 r q) = wdFull B (t / 40) (ix2 r q)
  lowrank : ∀ (m : Fin 5) (y : Fin 768) (q : Fin 128), (t / 40 = 0 → m.val < t / 8 % 5 ∨ (m.val = t / 8 % 5 ∧ 0 < t % 8)) →
    h (ix2 ⟨m.val * 768 + y.val, by omega⟩ q)
      = tileOf (hP B m.val (if t / 40 = 0 ∧ m.val = t / 8 % 5 then t % 8 else 8)) (ix2 y q)
  acc : 0 < t % 8 → a = accP B (t / 40) (t - t % 8) (t % 8)

/-- Before the first grid point nothing is asked of the scratches. -/
theorem Inv.zero (B : Blocks F) (g : Vec F S16384x512 .bf16) (h : Vec F S3840x128 .f32) (a : Vec F S768x512 .f32) : Inv B 0 g h a where
  wd r q hr := by have := hr rfl; omega
  lowrank m y q hm := by have := hm rfl; omega
  acc h := by omega

/-- The weight scratch after the body, away from the first row tile: as found. -/
theorem wdAfter_of_ne (i : grid0.Coords) (w : Vec F S1024x512 .i8) (s : Vec F S256x512 .f32) (g : Vec F S16384x512 .bf16)
    (h : (i 1).val ≠ 0) : wdAfter i w s g = g := dif_neg fun h' => h ((cond1_iff i).1 h')

/-- The weight scratch after the body, at the first row tile: the step's rows are new. -/
theorem wdAfter_apply (i : grid0.Coords) (w : Vec F S1024x512 .i8) (s : Vec F S256x512 .f32) (g : Vec F S16384x512 .bf16)
    (h : (i 1).val = 0) (r : Fin 16384) (q : Fin 512) :
    wdAfter i w s g (ix2 r q)
      = if (i 2).val * 2048 ≤ r.val ∧ r.val < (i 2).val * 2048 + 2048 then deqAt w s (i 2).val (r.val - (i 2).val * 2048) q
        else g (ix2 r q) := by
  unfold wdAfter
  rw [dif_pos ((cond1_iff i).2 h), trips_eq]
  exact wdLoop_apply i ((cond1_iff i).2 h) w s g 32 le_rfl r q

/-- A row tile of the low-rank scratch other than the current one, or at a later column tile: as found. -/
theorem hAfter_other (i : grid0.Coords) (x : Vec F S768x2048 .bf16) (l : Vec F S112x2048 .bf16) (h : Vec F S3840x128 .f32)
    (m : Fin 5) (y : Fin 768) (q : Fin 128) (hm : (i 0).val = 0 → m.val ≠ (i 1).val) :
    hAfter i x l h (ix2 ⟨m.val * 768 + y.val, by omega⟩ q) = h (ix2 ⟨m.val * 768 + y.val, by omega⟩ q) := by
  by_cases h3 : (i 0).val = 0
  · have hm' := hm h3
    have hc : hClear i h (ix2 ⟨m.val * 768 + y.val, by omega⟩ q) = h (ix2 ⟨m.val * 768 + y.val, by omega⟩ q) := by
      unfold hClear
      split_ifs
      · exact put_rows_not_mem (r := 768) (c := 128) _ _ (off5_eq i) _ q (by
          show m.val * 768 + y.val < (i 1).val * 768 ∨ (i 1).val * 768 + 768 ≤ m.val * 768 + y.val ∨ _
          omega)
      · rfl
    unfold hAfter
    rw [dif_pos ((cond3_iff i).2 h3)]
    refine (put_rows_not_mem (r := 768) (c := 112) _ _ (off6_eq i) _ q (by
      show m.val * 768 + y.val < (i 1).val * 768 ∨ (i 1).val * 768 + 768 ≤ m.val * 768 + y.val ∨ _
      omega)).trans hc
  · unfold hAfter
    rw [dif_neg fun h' => h3 ((cond3_iff i).1 h')]

/-- The current row tile of the low-rank scratch at the first column tile: one more block product. -/
theorem hAfter_tile (i : grid0.Coords) (x : Vec F S768x2048 .bf16) (l : Vec F S112x2048 .bf16) (h : Vec F S3840x128 .f32)
    (h3 : (i 0).val = 0) (B : Blocks F) (j : ℕ) (p : Vec F S768x112 .f32)
    (h0 : (i 2).val = 0 → p = hP B j 0)
    (hp : (i 2).val ≠ 0 → ∀ (y : Fin 768) (q : Fin 128) hy, h (ix2 ⟨(i 1).val * 768 + y.val, hy⟩ q) = tileOf p (ix2 y q))
    (y : Fin 768) (q : Fin 128) (hy : (i 1).val * 768 + y.val < 3840) :
    hAfter i x l h (ix2 ⟨(i 1).val * 768 + y.val, hy⟩ q) = tileOf (k0_pay5 p x l) (ix2 y q) := by
  have hi1 : (i 1).val < 5 := (i 1).isLt
  have hc : ∀ (y : Fin 768) (q : Fin 128) hy, hClear i h (ix2 ⟨(i 1).val * 768 + y.val, hy⟩ q) = tileOf p (ix2 y q) := by
    intro y q hy
    unfold hClear
    by_cases h4 : (i 2).val = 0
    · rw [if_pos ((cond4_iff i).2 h4)]
      refine (put_rows_mem (r := 768) (c := 128) _ _ (off5_eq i) _ q (Nat.le_add_right _ _)
        (by show (i 1).val * 768 + y.val - (i 1).val * 768 < 768; omega) q.isLt).trans ?_
      rw [h0 h4]
      have e : (⟨(i 1).val * 768 + y.val - (i 1).val * 768, by omega⟩ : Fin 768) = y := Fin.ext (by show _ - _ = _; omega)
      show k0_pay4 (F := F) (ix2 (⟨(i 1).val * 768 + y.val - (i 1).val * 768, _⟩ : Fin 768) q) = _
      rw [e]
      unfold tileOf
      split_ifs
      · rfl
      · rfl
    · rw [if_neg fun h' => h4 ((cond4_iff i).1 h')]
      exact hp h4 y q hy
  have h3' := (cond3_iff i).2 h3
  have hw : (VecWindow.window (hClear i h) (k0_off6 i) S768x112.size (k0_off6_inb i h3') : Vec F S768x112 .f32) = p := by
    funext z
    idx_vars z
    refine (window_rows (hClear i h) (k0_off6_inb i h3') (off6_eq i) z0 z1 (by omega) (lt_trans z1.isLt (by decide))).trans ?_
    refine (hc z0 ⟨z1.val, lt_trans z1.isLt (by decide)⟩ (by omega)).trans ?_
    unfold tileOf
    exact dif_pos z1.isLt
  unfold hAfter
  rw [dif_pos h3', hw]
  by_cases hq : q.val < 112
  · refine (put_rows_mem (r := 768) (c := 112) _ _ (off6_eq i) _ q (Nat.le_add_right _ _)
        (by show (i 1).val * 768 + y.val - (i 1).val * 768 < 768; omega) hq).trans ?_
    have e : (⟨(i 1).val * 768 + y.val - (i 1).val * 768, by omega⟩ : Fin 768) = y := Fin.ext (by show _ - _ = _; omega)
    show k0_pay5 p x l (ix2 (⟨(i 1).val * 768 + y.val - (i 1).val * 768, _⟩ : Fin 768) ⟨q.val, hq⟩) = _
    rw [e]
    exact (tileOf_lt (k0_pay5 p x l) y q hq).symm
  · refine (put_rows_not_mem (r := 768) (c := 112) _ _ (off6_eq i) _ q (Or.inr (Or.inr (not_lt.1 hq)))).trans ?_
    refine (hc y q hy).trans ?_
    exact (tileOf_ge p y q hq).trans (tileOf_ge (k0_pay5 p x l) y q hq).symm

section step

variable (B : Blocks F) (t : ℕ) (i : grid0.Coords) (h0 : (i 0).val = t / 40) (h1 : (i 1).val = t / 8 % 5) (h2 : (i 2).val = t % 8)
  (ht : t < 400) {g : Vec F S16384x512 .bf16} {h : Vec F S3840x128 .f32} {a : Vec F S768x512 .f32} (I : Inv B t g h a)
include h0 h1 h2 ht I

/-- After the body, every weight row up to the end of the current step is the dequantised one; away from the first row tile, every row. -/
theorem wdAfter_eq (r : Fin 16384) (q : Fin 512) (hr : t / 8 % 5 = 0 → r.val < (t % 8 + 1) * 2048) :
    wdAfter i (B.w t) (B.s t) g (ix2 r q) = wdFull B (t / 40) (ix2 r q) := by
  by_cases hm : t / 8 % 5 = 0
  · have hr' := hr hm
    rw [wdAfter_apply i _ _ g (h1.trans hm) r q]
    split_ifs with hc
    · have e1 : r.val / 2048 = (i 2).val := by omega
      have e2 : t / 40 * 40 + (i 2).val = t := by omega
      have e3 : r.val % 2048 = r.val - (i 2).val * 2048 := by omega
      show _ = deqAt (B.w (t / 40 * 40 + r.val / 2048)) (B.s (t / 40 * 40 + r.val / 2048)) (r.val / 2048) (r.val % 2048) q
      rw [e1, e2, e3]
    · exact I.wd r q fun _ => by omega
  · rw [wdAfter_of_ne i _ _ g (by omega)]
    exact I.wd r q fun h => absurd h hm

/-- The weight rows the body's product reads are the dequantised rows of its step. -/
theorem wdWindow_eq :
    (VecWindow.window (wdAfter i (B.w t) (B.s t) g) (k0_off4 i) S2048x512.size (k0_off4_inb i) : Vec F S2048x512 .bf16)
      = wdBlock B (t / 40) (t % 8) := by
  funext z
  idx_vars z
  refine (window_rows (wdAfter i (B.w t) (B.s t) g) (k0_off4_inb i) (off4_eq i) z0 z1 (by omega) z1.isLt).trans ?_
  refine (wdAfter_eq B t i h0 h1 h2 ht I _ _ fun _ => by show (i 2).val * 2048 + z0.val < _; omega).trans ?_
  refine congrArg (wdFull B (t / 40)) ((ix2_inj ..).2 ⟨Fin.ext ?_, rfl⟩)
  show (i 2).val * 2048 + z0.val = (t % 8 * 2048 + z0.val) % 16384
  omega

/-- The accumulator after the body has one more step's product. -/
theorem accAfter_eq : accAfter i (B.x t) (B.w t) (B.s t) g a = accP B (t / 40) (t - t % 8) (t % 8 + 1) := by
  have ea : (if k0_cond4 i = 1#1 then k0_pay2 else a) = accP B (t / 40) (t - t % 8) (t % 8) := by
    by_cases hk : t % 8 = 0
    · rw [if_pos ((cond4_iff i).2 (h2.trans hk)), hk]; rfl
    · rw [if_neg fun h' => hk (h2.symm.trans ((cond4_iff i).1 h'))]
      exact I.acc (Nat.pos_of_ne_zero hk)
  have et : t - t % 8 + t % 8 = t := by omega
  unfold accAfter
  rw [wdWindow_eq B t i h0 h1 h2 ht I, ea]
  show _ = k0_pay3 (accP B (t / 40) (t - t % 8) (t % 8)) (B.x (t - t % 8 + t % 8)) (wdBlock B (t / 40) (t % 8))
  rw [et]

/-- Every row tile of the low-rank scratch after the body. -/
theorem hAfter_eq (m : Fin 5) (y : Fin 768) (q : Fin 128) (hm : t / 40 = 0 → m.val ≤ t / 8 % 5) :
    hAfter i (B.x t) (B.la t) h (ix2 ⟨m.val * 768 + y.val, by omega⟩ q)
      = tileOf (hP B m.val (if t / 40 = 0 ∧ m.val = t / 8 % 5 then t % 8 + 1 else 8)) (ix2 y q) := by
  by_cases hc : t / 40 = 0 ∧ m.val = t / 8 % 5
  · rw [if_pos hc]
    have em : m.val = (i 1).val := hc.2.trans h1.symm
    have et : m.val * 8 + t % 8 = t := by omega
    have key := hAfter_tile i (B.x t) (B.la t) h (h0.trans hc.1) B m.val (hP B m.val (t % 8))
      (fun hk => by rw [← h2, hk]) (fun hk y q hy => by
        have := I.lowrank m y q fun _ => Or.inr ⟨hc.2, by omega⟩
        rw [if_pos hc] at this
        simpa only [em] using this) y q (by omega)
    have : hP B m.val (t % 8 + 1) = k0_pay5 (hP B m.val (t % 8)) (B.x t) (B.la t) := by
      show k0_pay5 _ (B.x (m.val * 8 + t % 8)) (B.la (m.val * 8 + t % 8)) = _
      rw [et]
    rw [this]
    simpa only [em] using key
  · rw [if_neg hc, hAfter_other i _ _ h m y q fun h' => by omega]
    have := I.lowrank m y q fun hn => Or.inl (by have := hm hn; omega)
    rwa [if_neg hc] at this

/-- One body call keeps the invariant. -/
theorem Inv.step : Inv B (t + 1) (wdAfter i (B.w t) (B.s t) g) (hAfter i (B.x t) (B.la t) h) (accAfter i (B.x t) (B.w t) (B.s t) g a) where
  wd r q hr := by
    by_cases hn : (t + 1) / 40 = t / 40
    · rw [hn]
      refine wdAfter_eq B t i h0 h1 h2 ht I r q fun hm => ?_
      have := r.isLt
      by_cases hm' : (t + 1) / 8 % 5 = 0
      · have := hr hm'; omega
      · omega
    · have := hr (by omega); omega
  lowrank m y q hm := by
    refine (hAfter_eq B t i h0 h1 h2 ht I m y q fun hn => by omega).trans ?_
    have : (if t / 40 = 0 ∧ m.val = t / 8 % 5 then t % 8 + 1 else 8)
        = (if (t + 1) / 40 = 0 ∧ m.val = (t + 1) / 8 % 5 then (t + 1) % 8 else 8) := by
      split_ifs <;> omega
    rw [this]
  acc hk := by
    rw [accAfter_eq B t i h0 h1 h2 ht I]
    have e1 : (t + 1) / 40 = t / 40 := by omega
    have e2 : t + 1 - (t + 1) % 8 = t - t % 8 := by omega
    have e3 : (t + 1) % 8 = t % 8 + 1 := by omega
    rw [e1, e2, e3]

/-- The output block the body leaves at the last contraction step. -/
theorem outAfter_eq (hk : t % 8 = 7) (d : Vec F S768x512 .bf16) :
    outAfter i (B.x t) (B.w t) (B.s t) (B.la t) (B.lb t) (B.ids t) d g h a = outP B t := by
  have h5 : k0_cond5 i = 1#1 := (cond5_iff i).2 (h2.trans hk)
  have hw : (VecWindow.window (hAfter i (B.x t) (B.la t) h) (k0_off7 i) S768x128.size (k0_off7_inb i h5) : Vec F S768x128 .f32)
      = tileOf (hP B (t / 8 % 5) 8) := by
    funext z
    idx_vars z
    refine (window_rows (hAfter i (B.x t) (B.la t) h) (k0_off7_inb i h5) (off7_eq i) z0 z1 (by omega) z1.isLt).trans ?_
    have := hAfter_eq B t i h0 h1 h2 ht I ⟨t / 8 % 5, by omega⟩ z0 z1 fun _ => le_rfl
    rw [show (if t / 40 = 0 ∧ t / 8 % 5 = t / 8 % 5 then t % 8 + 1 else 8) = 8 by split_ifs <;> omega] at this
    simpa only [h1] using this
  unfold outAfter outP
  rw [dif_pos h5, hw, accAfter_eq B t i h0 h1 h2 ht I, hk]

/-- Before the last contraction step the output block is as found. -/
theorem outAfter_idle (hk : t % 8 ≠ 7) (d : Vec F S768x512 .bf16) :
    outAfter i (B.x t) (B.w t) (B.s t) (B.la t) (B.lb t) (B.ids t) d g h a = d :=
  dif_neg fun h' => hk (h2.symm.trans ((cond5_iff i).1 h'))

end step

end Cert.Kernel.Body

end
-- ==== Proof.BitsRun.lean ====
/-
  The region's proof data — the three scratches' invariant, the output block of each row and column tile —, the body obligation
  at every grid point, and the run of the whole program to the library's account of every array.
-/
module

public import proofs.«01_k».proof.Proof.BitsInvariant

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `t`. -/
def pt (t : ℕ) : Fin cfg0.N := ⟨t % 400, lt_of_lt_of_eq (Nat.mod_lt _ (by decide)) N_0.symm⟩

theorem lt_400 (t : Fin cfg0.N) : t.val < 400 := lt_of_lt_of_eq t.isLt N_0

theorem pt_val (t : Fin cfg0.N) : pt t.val = t := Fin.ext (Nat.mod_eq_of_lt (lt_400 t))

/-- The blocks the input windows stage, read off the arrays at the region's entry. -/
def blocks (c : Dev nD) : Blocks F where
  x t := iblk m c 0 (pt t)
  w t := iblk m c 1 (pt t)
  s t := iblk m c 2 (pt t)
  la t := iblk m c 3 (pt t)
  lb t := iblk m c 4 (pt t)
  ids t := iblk m c 5 (pt t)

/-- The state between grid points: the three scratches at contents the invariant admits, and the generator register. -/
def PhiS (c : Dev nD) (n : ℕ) (_ : n ≤ cfg0.N) : sProp 𝕄 :=
  iprop((∃ (g : Vec F S16384x512 .bf16) (h : Vec F S3840x128 .f32) (a : Vec F S768x512 .f32), ⌜Inv (blocks m c) n g h a⌝
      ∗ owns (c : Thread nD τ) (Memref.whole cc0_scratch0) fullShare g
      ∗ owns (c : Thread nD τ) (Memref.whole cc0_scratch1) fullShare h
      ∗ owns (c : Thread nD τ) (Memref.whole cc0_scratch2) fullShare a) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outP (blocks m c) t.val
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_castSucc (c : Dev nD) (t : Fin cfg0.N) : (dats m 0 c).Φ t.castSucc = PhiS m c t.val (Nat.le_of_lt t.isLt) := by
  dsimp only [dats]; exact Pipeline.Dat.Φ_castSucc (PhiS m c) t

theorem Φ_succ (c : Dev nD) (t : Fin cfg0.N) : (dats m 0 c).Φ t.succ = PhiS m c (t.val + 1) t.isLt := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outP (blocks m c) t.val := by dsimp only [dats]

theorem before_0 (c : Dev nD) (t : Fin cfg0.N) (d) : (dats m 0 c).before 0 t d = (blocks m c).x t.val := by
  rw [before0_0_of m (dats m 0 c) (A_eq m c 0) (after_0 m c) t d]; unfold blocks; dsimp only; rw [pt_val]
theorem before_1 (c : Dev nD) (t : Fin cfg0.N) (d) : (dats m 0 c).before 1 t d = (blocks m c).w t.val := by
  rw [before0_1_of m (dats m 0 c) (A_eq m c 1) (after_1 m c) t d]; unfold blocks; dsimp only; rw [pt_val]
theorem before_2 (c : Dev nD) (t : Fin cfg0.N) (d) : (dats m 0 c).before 2 t d = (blocks m c).s t.val := by
  rw [before0_2_of m (dats m 0 c) (A_eq m c 2) (after_2 m c) t d]; unfold blocks; dsimp only; rw [pt_val]
theorem before_3 (c : Dev nD) (t : Fin cfg0.N) (d) : (dats m 0 c).before 3 t d = (blocks m c).la t.val := by
  rw [before0_3_of m (dats m 0 c) (A_eq m c 3) (after_3 m c) t d]; unfold blocks; dsimp only; rw [pt_val]
theorem before_4 (c : Dev nD) (t : Fin cfg0.N) (d) : (dats m 0 c).before 4 t d = (blocks m c).lb t.val := by
  rw [before0_4_of m (dats m 0 c) (A_eq m c 4) (after_4 m c) t d]; unfold blocks; dsimp only; rw [pt_val]
theorem before_5 (c : Dev nD) (t : Fin cfg0.N) (d) : (dats m 0 c).before 5 t d = (blocks m c).ids t.val := by
  rw [before0_5_of m (dats m 0 c) (A_eq m c 5) (after_5 m c) t d]; unfold blocks; dsimp only; rw [pt_val]

/-- The body as the pipeline calls it. -/
theorem defs₀_row (t : Fin cfg0.N) : defs₀ (F := F) .tc cfg0.body (cfg0.bodyArgs t (cfg0.slots t)) = bodyAt0 t := by
  unfold defs₀; rw [Defs.onTc_tc]

/-- The output window is written at the last contraction step, -/
theorem idle_6_last (t : Fin cfg0.N) (hk : t.val % 8 = 7) : idle0 6 (grid0.coords t) = false := by
  show (!(k0_cond5 (grid0.coords t) == 1#1)) = false
  rw [(cond5_iff (grid0.coords t)).2 ((coords_val t).2.2.trans hk)]; rfl

/-- and idle before it. -/
theorem idle_6_before (t : Fin cfg0.N) (hk : t.val % 8 ≠ 7) : idle0 6 (grid0.coords t) = true := by
  show (!(k0_cond5 (grid0.coords t) == 1#1)) = true
  rw [beq_eq_false_iff_ne.2 fun h' => hk ((coords_val t).2.2.symm.trans ((cond5_iff (grid0.coords t)).1 h'))]; rfl

/-- The body at a grid point: from the blocks staged there and scratches the invariant admits, to the scratches of the next
    point and, at the last contraction step, the output block. -/
theorem body_obligation (c : Dev nD) : BodyObligation (dats m 0 c) (defs₀ (F := F)) Variants.none () Set.univ := fun t => by
  rw [bigSep_W0, bigSep_W0, defs₀_row, Φ_castSucc, Φ_succ]
  have ht := lt_400 t
  obtain ⟨e0, e1, e2⟩ := coords_val t
  unfold PhiS Dat.owesAt Pipeline.owesWithin
  dsimp only
  rw [show (dats m 0 c).owed t.castSucc = 0 from rfl, show (dats m 0 c).owed t.succ = 0 from rfl]
  iintro ⟨⟨⟨%g, %h, %a, %hI, Hg, Hh, Ha⟩, Hr⟩, ⟨%W, -, HO⟩, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (sound_kernel c Set.univ (grid0.coords t) _ _ _ _ _ _ _ _ _ _ _ _ _ _ _ _ _ _ _ _
    ((blocks m c).x t.val) ((blocks m c).w t.val) ((blocks m c).s t.val) ((blocks m c).la t.val) ((blocks m c).lb t.val)
    ((blocks m c).ids t.val) ((dats m 0 c).before 6 t d6) g h a)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hg]; · iexact Hg
  isplitl [Hh]; · iexact Hh
  isplitl [Ha]; · iexact Ha
  iintro ⟨H0, H1, H2, H3, H4, H5, H6, Hg, Hh, Ha⟩
  isplitl [Hg Hh Ha Hr]
  · isplitl [Hg Hh Ha]
    · iexists (wdAfter (grid0.coords t) ((blocks m c).w t.val) ((blocks m c).s t.val) g)
      iexists (hAfter (grid0.coords t) ((blocks m c).x t.val) ((blocks m c).la t.val) h)
      iexists (accAfter (grid0.coords t) ((blocks m c).x t.val) ((blocks m c).w t.val) ((blocks m c).s t.val) g a)
      isplitr
      · ipureintro
        exact Inv.step (blocks m c) t.val (grid0.coords t) e0 e1 e2 ht hI
      isplitl [Hg]; · iexact Hg
      isplitl [Hh]; · iexact Hh
      iexact Ha
    · iexact Hr
  isplitl [HO]
  · iexists W; isplitr; · ipureintro; exact fun _ _ => Or.inl trivial
    iexact HO
  have b0 : (dats m 0 c).after 0 t = (blocks m c).x t.val := by rw [← before_0 m c t d0, before0_0_of m (dats m 0 c) (A_eq m c 0) (after_0 m c) t d0, after_0]
  have b1 : (dats m 0 c).after 1 t = (blocks m c).w t.val := by rw [← before_1 m c t d1, before0_1_of m (dats m 0 c) (A_eq m c 1) (after_1 m c) t d1, after_1]
  have b2 : (dats m 0 c).after 2 t = (blocks m c).s t.val := by rw [← before_2 m c t d2, before0_2_of m (dats m 0 c) (A_eq m c 2) (after_2 m c) t d2, after_2]
  have b3 : (dats m 0 c).after 3 t = (blocks m c).la t.val := by rw [← before_3 m c t d3, before0_3_of m (dats m 0 c) (A_eq m c 3) (after_3 m c) t d3, after_3]
  have b4 : (dats m 0 c).after 4 t = (blocks m c).lb t.val := by rw [← before_4 m c t d4, before0_4_of m (dats m 0 c) (A_eq m c 4) (after_4 m c) t d4, after_4]
  have b5 : (dats m 0 c).after 5 t = (blocks m c).ids t.val := by rw [← before_5 m c t d5, before0_5_of m (dats m 0 c) (A_eq m c 5) (after_5 m c) t d5, after_5]
  isplitl [H0]; · rw [b0]; iexact H0
  isplitl [H1]; · rw [b1]; iexact H1
  isplitl [H2]; · rw [b2]; iexact H2
  isplitl [H3]; · rw [b3]; iexact H3
  isplitl [H4]; · rw [b4]; iexact H4
  isplitl [H5]; · rw [b5]; iexact H5
  by_cases hk : t.val % 8 = 7
  · rw [idle_6_last t hk]
    dsimp only
    rw [after_6, ← outAfter_eq (blocks m c) t.val (grid0.coords t) e0 e1 e2 ht hI hk ((dats m 0 c).before 6 t d6)]
    iexact H6
  · rw [idle_6_before t hk, show (win0 6).flush t = false from Bool.eq_false_iff.2 fun h' => hk ((flush0_6 t).1 h')]
    dsimp only
    rw [outAfter_idle (blocks m c) t.val (grid0.coords t) e0 e1 e2 ht hI hk ((dats m 0 c).before 6 t d6)]
    iexists d6
    iexact H6

/-- At the region's entry the scratches hold anything: the invariant before the first point. -/
theorem enter (c : Dev nD) : (Pipeline.ΦA spec0 c : sProp 𝕄) ⊢ (dats m 0 c).Φ 0 := by
  rw [show (dats m 0 c).Φ 0 = PhiS m c 0 (Nat.zero_le _) by dsimp only [dats]; rfl]
  unfold Pipeline.ΦA PhiS
  rw [scopedRest0_eq]
  iintro ⟨⟨⟨%g, Hg⟩, ⟨%h, Hh⟩, ⟨%a, Ha⟩⟩, Hr⟩
  isplitl [Hg Hh Ha]
  · iexists g; iexists h; iexists a
    isplitr; · ipureintro; exact Inv.zero (blocks m c) g h a
    isplitl [Hg]; · rw [owns_whole_eq]; iexists g; isplitr; · ipureintro; rfl
                    iexact Hg
    isplitl [Hh]; · rw [owns_whole_eq]; iexists h; isplitr; · ipureintro; rfl
                    iexact Hh
    rw [owns_whole_eq]; iexists a; isplitr; · ipureintro; rfl
    iexact Ha
  · iexact Hr

/-- At the region's end the scratches are given back. -/
theorem leave (c : Dev nD) : (dats m 0 c).Φ (Fin.last cfg0.N) ⊢ (Pipeline.ΦA spec0 c : sProp 𝕄) := by
  rw [show (dats m 0 c).Φ (Fin.last cfg0.N) = PhiS m c cfg0.N le_rfl by dsimp only [dats]; rfl]
  unfold Pipeline.ΦA PhiS
  rw [scopedRest0_eq]
  simp only [owns_whole_eq]
  iintro ⟨⟨%g', %h', %a', -, ⟨%g, -, Hg⟩, ⟨%h, -, Hh⟩, ⟨%a, -, Ha⟩⟩, Hr⟩
  isplitl [Hg Hh Ha]
  · isplitl [Hg]; · iexists g; iexact Hg
    isplitl [Hh]; · iexists h; iexact Hh
    iexists a; iexact Ha
  · iexact Hr

/-- The program runs to the library's account of its arrays, every semaphore counter back at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (fun c w => A_eq m c w)
    (enter m) (leave m) _ fun _ h => h

end Cert.Kernel.Body

end
-- ==== Proof.BitsQuiet.lean ====
/-
  The frame claim of the program: it runs, its arguments end as they were, and every semaphore counter is back at zero.
-/
module

public import proofs.«01_k».proof.Proof.BitsRun
public import Idealize.ShloMosaic.Lib.Claim

@[expose] public section

noncomputable section

namespace Cert.Kernel.Body

open Cert.Kernel Cert.Kernel.Gen
open Idealize.ShloMosaic Idealize.ShloMosaic.TcCoe
open Idealize.SL.Sem

variable {F : FTy → Type} [FloatOps F]

/-- Every weakly fair execution terminates without a fault, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (fun c w => A_eq m c w) ((θ_run defs _ _).mono (fun _ h => h.1) (run m ρ)))
    ((θ_run defs _ _).mono (fun _ h => h.2) (run m ρ))

end Cert.Kernel.Body

end
-- ==== Proof.Codes.lean ====
/- The sixteen-entry table of the weight codes, as a function of one code, and the two codes a packed byte holds. -/
module
public import Idealize.ShloMosaic.Lib.Pointwise
@[expose] public section
noncomputable section
namespace Cert.Nf4
open Idealize.ShloMosaic

/-- Is the bit `b` of the code `c` set? -/
abbrev bit (c b : BitVec 32) : BitVec 1 := IntOp.cmpi .ne (IntOp.andi c b) 0#32

/-- The table entry picked by four bits, the most significant first; an entry is a bf16 constant. -/
def entry (b8 b4 b2 b1 : BitVec 1) : Ideal .bf16 :=
  Scalar.select b8
    (Scalar.select b4
      (Scalar.select b2
        (Scalar.select b1 1 (Ideal.ofBits .bf16 0x3F39#16))
        (Scalar.select b1 (Ideal.ofBits .bf16 0x3F10#16) (Ideal.ofBits .bf16 0x3EE2#16)))
      (Scalar.select b2
        (Scalar.select b1 (Ideal.ofBits .bf16 0x3EAD#16) (Ideal.ofBits .bf16 0x3E7C#16))
        (Scalar.select b1 (Ideal.ofBits .bf16 0x3E25#16) (Ideal.ofBits .bf16 0x3DA3#16))))
    (Scalar.select b4
      (Scalar.select b2
        (Scalar.select b1 0 (Ideal.ofBits .bf16 0xBDBA#16))
        (Scalar.select b1 (Ideal.ofBits .bf16 0xBE3D#16) (Ideal.ofBits .bf16 0xBE92#16)))
      (Scalar.select b2
        (Scalar.select b1 (Ideal.ofBits .bf16 0xBECA#16) (Ideal.ofBits .bf16 0xBF06#16))
        (Scalar.select b1 (Ideal.ofBits .bf16 0xBF32#16) (Ideal.ofBits .bf16 0xBF80#16))))

/-- The table at a code. -/
def nf4 (c : BitVec 32) : Ideal .bf16 := entry (bit c 8#32) (bit c 4#32) (bit c 2#32) (bit c 1#32)

/-- The low code of a packed byte. -/
def low (v : BitVec 8) : BitVec 32 := IntOp.andi (v.setWidth 32) 15#32

/-- The high code of a packed byte. -/
def high (v : BitVec 8) : BitVec 32 := IntOp.shrsi .host (v.setWidth 32) 4#32

/-- The code of row parity `p` in a packed byte: rows of even index are coded by the low half. -/
def code (p : ℕ) (v : BitVec 8) : BitVec 32 := if p % 2 = 0 then low v else high v

/-- The two codes of a byte spread over a 32-bit word, sixteen bits apart. -/
def spread (v : BitVec 8) : BitVec 32 :=
  IntOp.andi (IntOp.ori (v.setWidth 32) (IntOp.shli .vector (v.setWidth 32) 12#32)) 983055#32

/-- A bit test on a half of the spread word is the bit test on the code, for each of the four bits. -/
theorem spread_bit (v : BitVec 8) (p : Fin 2) :
    IntOp.cmpi .ne (IntOp.andi ((spread v).extractLsb' (16 * p.val) 16) 8#16) 0#16 = bit (code p.val v) 8#32
    ∧ IntOp.cmpi .ne (IntOp.andi ((spread v).extractLsb' (16 * p.val) 16) 4#16) 0#16 = bit (code p.val v) 4#32
    ∧ IntOp.cmpi .ne (IntOp.andi ((spread v).extractLsb' (16 * p.val) 16) 2#16) 0#16 = bit (code p.val v) 2#32
    ∧ IntOp.cmpi .ne (IntOp.andi ((spread v).extractLsb' (16 * p.val) 16) 1#16) 0#16 = bit (code p.val v) 1#32 := by
  have key : ∀ n : Fin 256, ∀ p : Fin 2,
    IntOp.cmpi .ne (IntOp.andi ((spread (BitVec.ofFin n)).extractLsb' (16 * p.val) 16) 8#16) 0#16 = bit (code p.val (BitVec.ofFin n)) 8#32
    ∧ IntOp.cmpi .ne (IntOp.andi ((spread (BitVec.ofFin n)).extractLsb' (16 * p.val) 16) 4#16) 0#16 = bit (code p.val (BitVec.ofFin n)) 4#32
    ∧ IntOp.cmpi .ne (IntOp.andi ((spread (BitVec.ofFin n)).extractLsb' (16 * p.val) 16) 2#16) 0#16 = bit (code p.val (BitVec.ofFin n)) 2#32
    ∧ IntOp.cmpi .ne (IntOp.andi ((spread (BitVec.ofFin n)).extractLsb' (16 * p.val) 16) 1#16) 0#16 = bit (code p.val (BitVec.ofFin n)) 1#32 := by
    decide +kernel
  exact key v.toFin p

end Cert.Nf4
end
-- ==== Proof.Weights.lean ====
/- What the blocks compute over the reals, index by index: a dequantised weight, the accumulated products, the hidden
   activations and the stored tile. -/
module
public import proofs.«01_k».proof.Proof.Invariant
public import proofs.«01_k».proof.Proof.Codes
public import Idealize.ShloMosaic.Lib.BitcastPair
public import Idealize.ShloMosaic.Lib.Pipeline.ValueKit
@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL.Sem

/-- Row `y` of the sixteen-bit view is half `y % 2` of the spread word of packed row `y / 2`. -/
theorem pay7_apply (v : Vec Ideal S32x512 .i8) (y : Fin 64) (q : Fin 512) :
    k0_pay7 v (ix2 y q) =
      (Nf4.spread (v (ix2 ⟨y.val / 2, by omega⟩ q))).extractLsb' (16 * (y.val % 2)) 16 := by
  unfold k0_pay7
  rw [bitcast_32_16]
  have hi : ∀ h, bitcasts_S32x512_w32_S64x512_w16.srcIdx (ix2 y q) (S64x512.row (ix2 y q) / 2) h
      = ix2 (⟨y.val / 2, by omega⟩ : Fin 32) q := by
    intro h
    funext a
    fin_cases a <;> rfl
  rw [hi]
  rfl

/-- A dequantised weight: the table at the code of its row times the scale of its column. -/
theorem deq64_apply (a : Vec Ideal S1x512 .f32) (v : Vec Ideal S32x512 .i8) (y : Fin 64) (q : Fin 512) :
    deq64 a v (ix2 y q) = Nf4.nf4 (Nf4.code (y.val % 2) (v (ix2 ⟨y.val / 2, by omega⟩ q))) * a (ix2 0 q) := by
  have h8 : k0_pay8 v (ix2 y q) = IntOp.cmpi CmpIPredicate.ne (IntOp.andi (k0_pay7 v (ix2 y q)) 8#16) 0#16 := by
    pointwise [k0_pay8]
  have h4 : k0_pay9 v (ix2 y q) = IntOp.cmpi CmpIPredicate.ne (IntOp.andi (k0_pay7 v (ix2 y q)) 4#16) 0#16 := by
    pointwise [k0_pay9]
  have h2 : k0_pay10 v (ix2 y q) = IntOp.cmpi CmpIPredicate.ne (IntOp.andi (k0_pay7 v (ix2 y q)) 2#16) 0#16 := by
    pointwise [k0_pay10]
  have h1 : k0_pay11 v (ix2 y q) = IntOp.cmpi CmpIPredicate.ne (IntOp.andi (k0_pay7 v (ix2 y q)) 1#16) 0#16 := by
    pointwise [k0_pay11]
  have h12 : k0_pay12 v (ix2 y q) =
      Scalar.select (k0_pay11 v (ix2 y q)) 1 (Ideal.ofBits FTy.bf16 16185#16) := by
    pointwise [k0_pay12]
  have h13 : k0_pay13 v (ix2 y q) =
      Scalar.select (k0_pay11 v (ix2 y q)) (Ideal.ofBits FTy.bf16 0x3F10#16) (Ideal.ofBits FTy.bf16 0x3EE2#16) := by
    pointwise [k0_pay13]
  have h : deq64 a v (ix2 y q) =
      Nf4.entry (k0_pay8 v (ix2 y q)) (k0_pay9 v (ix2 y q)) (k0_pay10 v (ix2 y q)) (k0_pay11 v (ix2 y q)) * a (ix2 0 q) := by
    rw [Nf4.entry, ← h12, ← h13]
    pointwise [deq64, k0_pay1, k0_pay6]
  have hb := Nf4.spread_bit (v (ix2 ⟨y.val / 2, by omega⟩ q)) ⟨y.val % 2, by omega⟩
  rw [← pay7_apply v y q] at hb
  rw [h, h8, h4, h2, h1, hb.1, hb.2.1, hb.2.2.1, hb.2.2.2]
  rfl

/-- One accumulation step of the main product. -/
theorem pay3_apply (a : FVec Ideal S768x512 .f32) (x : FVec Ideal S768x2048 .bf16) (w : Vec Ideal S2048x512 .bf16)
    (y : Fin 768) (q : Fin 512) :
    k0_pay3 a x w (ix2 y q) = a (ix2 y q) + ∑ j : Fin 2048, x (ix2 y j) * w (ix2 j q) := by
  pointwise [k0_pay3]

/-- The accumulator starts at zero. -/
theorem pay2_apply (y : Fin 768) (q : Fin 512) : k0_pay2 (F := Ideal) (ix2 y q) = 0 := by
  pointwise [k0_pay2]

/-- The hidden activations start at zero. -/
theorem pay4_apply (y : Fin 768) (q : Fin 128) : k0_pay4 (F := Ideal) (ix2 y q) = 0 := by
  pointwise [k0_pay4]

/-- One accumulation step of the hidden activations. -/
theorem pay5_apply (a : FVec Ideal S768x112 .f32) (x : FVec Ideal S768x2048 .bf16) (w : Vec Ideal S112x2048 .bf16)
    (y : Fin 768) (l : Fin 112) :
    k0_pay5 a x w (ix2 y l) = a (ix2 y l) + ∑ j : Fin 2048, x (ix2 y j) * w (ix2 l j) := by
  pointwise [k0_pay5]

/-- The floor division of a lane by sixteen, as spelt with a truncating division and a sign correction. -/
theorem lane_div (x : Fin 112) :
    (Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 x.val) 16#32) 0#32))
      (IntOp.subi (IntOp.divsi ArithUnit.vector (BitVec.ofNat 32 x.val) 16#32) 1#32)
      (IntOp.divsi ArithUnit.vector (BitVec.ofNat 32 x.val) 16#32))
      = BitVec.ofNat 32 (x.val / 16) := by
  revert x
  decide +kernel

/-- The stored tile: the accumulator plus twice the product of the token's own hidden activations with the second
    adapter matrix. -/
theorem pay14_apply (i : IVec S768x1 32) (h : FVec Ideal S768x128 .f32) (l : FVec Ideal S112x512 .bf16)
    (a : FVec Ideal S768x512 .f32) (y : Fin 768) (q : Fin 512) :
    k0_pay14 (F := Ideal) i h l a (ix2 y q) =
      a (ix2 y q) + Ideal.ofBits FTy.f32 1073741824#32 *
        ∑ x : Fin 112, Scalar.select
          (IntOp.cmpi CmpIPredicate.eq (BitVec.ofNat 32 (x.val / 16)) (i (ix2 y 0)))
          (h (ix2 y ⟨x.val, by omega⟩) * l (ix2 x q)) 0 := by
  refine Eq.trans ?_ (congrArg (fun z => a (ix2 y q) + Ideal.ofBits FTy.f32 1073741824#32 * z)
    (Finset.sum_congr rfl fun x _ => congrArg (fun z => Scalar.select
      (IntOp.cmpi CmpIPredicate.eq z (i (ix2 y 0))) (h (ix2 y ⟨x.val, by omega⟩) * l (ix2 x q)) 0) (lane_div x)))
  pointwise [k0_pay14]

/-- The accumulator after `j` steps is the sum of the products of the blocks visited. -/
theorem accP_apply (B : Blocks Ideal) (n b j : ℕ) (y : Fin 768) (q : Fin 512) :
    accP B n b j (ix2 y q) =
      ∑ k ∈ Finset.range j, ∑ i : Fin 2048, B.x (b + k) (ix2 y i) * wdBlock B n k (ix2 i q) := by
  induction j with
  | zero => exact pay2_apply y q
  | succ j ih => rw [accP, pay3_apply, ih, Finset.sum_range_succ]

/-- The hidden activations after `j` steps are the sum of the products of the blocks visited. -/
theorem hP_apply (B : Blocks Ideal) (m j : ℕ) (y : Fin 768) (l : Fin 112) :
    hP B m j (ix2 y l) =
      ∑ k ∈ Finset.range j, ∑ i : Fin 2048, B.x (m * 8 + k) (ix2 y i) * B.la (m * 8 + k) (ix2 l i) := by
  induction j with
  | zero => exact pay4_apply y _
  | succ j ih => rw [hP, pay5_apply, ih, Finset.sum_range_succ]

/-- A weight of the dequantised column panel: the code of its row in its packed byte and the scale of its group. -/
theorem wdBlock_apply (B : Blocks Ideal) (n : ℕ) (k : Fin 8) (i : Fin 2048) (q : Fin 512) :
    wdBlock B n k.val (ix2 i q) =
      Nf4.nf4 (Nf4.code (i.val % 2) (B.w (n * 40 + k.val) (ix2 ⟨i.val / 2, by omega⟩ q)))
        * B.s (n * 40 + k.val) (ix2 ⟨k.val * 32 + i.val / 64, by omega⟩ q) := by
  have e1 : (k.val * 2048 + i.val) % 16384 = k.val * 2048 + i.val := by omega
  have e2 : (k.val * 2048 + i.val) / 2048 = k.val := by omega
  have e3 : (k.val * 2048 + i.val) % 2048 = i.val := by omega
  have h : wdBlock B n k.val (ix2 i q) = deqAt (B.w (n * 40 + k.val)) (B.s (n * 40 + k.val)) k.val i.val q := by
    show deqAt _ _ _ _ _ = _
    simp only [ix2, e1, e2, e3]
  rw [h, deqAt, deq64_apply]
  have f1 : i.val % 64 % 2 = i.val % 2 := by omega
  have f2 : (i.val / 64 * 32 + i.val % 64 / 2) % 1024 = i.val / 2 := by omega
  have f3 : (k.val * 32 + i.val / 64) % 256 = k.val * 32 + i.val / 64 := by omega
  simp only [f1]
  congr 1
  · congr 2
    show B.w _ (ix2 ⟨(i.val / 64 * 32 + i.val % 64 / 2) % 1024, _⟩ q) = _
    simp only [f2]
  · show B.s _ (ix2 ⟨(k.val * 32 + i.val / 64) % 256, _⟩ q) = _
    simp only [f3]

end Cert.KernelIdeal.Body
end
-- ==== Proof.Reads.lean ====
/- The input blocks of every grid point, read off the argument arrays. -/
module
public import proofs.«01_k».proof.Proof.Run
public import proofs.«01_k».proof.Proof.Weights
public import Idealize.ShloMosaic.Lib.Pipeline.ValueKit
@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-- Which block of its array each window stages at a grid point. -/
theorem idx : ∀ t : Fin cfg0.N,
    win0_0.index t = ![t.val / 8 % 5, t.val % 8]
    ∧ win0_1.index t = ![(if t.val / 8 % 5 = 0 then t.val % 8 else 7), t.val / 40]
    ∧ win0_2.index t = ![0, t.val / 40]
    ∧ win0_3.index t = ![0, (if t.val / 40 = 0 then t.val % 8 else 7)]
    ∧ win0_4.index t = ![0, t.val / 40]
    ∧ win0_5.index t = ![t.val / 8 % 5, 0]
    ∧ win0_6.index t = ![t.val / 8 % 5, t.val / 40] :=
  (by decide +kernel : ∀ t : Fin grid0.N, _)

/-- Joining the two token axes, at an index. -/
theorem tokens_apply (x : FVec Ideal S6x640x16384 .bf16) (r : Fin 3840) (d : Fin 16384) :
    shapeCast S3840x16384 x shapeCasts_S6x640x16384_S3840x16384 (ix2 r d) =
      x (ix3 ⟨r.val / 640, by omega⟩ ⟨r.val % 640, by omega⟩ d) := by
  pointwise

/-- Joining adapter and rank of the transposed first adapter matrix, at an index. -/
theorem la_apply (x : FVec Ideal S7x16384x16 .bf16) (l : Fin 112) (d : Fin 16384) :
    shapeCast S112x16384 (transpose S7x16x16384 [0, 2, 1] x transposes_S7x16384x16_S7x16x16384_0_2_1)
      shapeCasts_S7x16x16384_S112x16384 (ix2 l d) =
      x (ix3 ⟨l.val / 16, by omega⟩ d ⟨l.val % 16, by omega⟩) := by
  pointwise

/-- Joining adapter and rank of the second adapter matrix, at an index. -/
theorem lb_apply (x : FVec Ideal S7x16x5120 .bf16) (l : Fin 112) (o : Fin 5120) :
    shapeCast S112x5120 x shapeCasts_S7x16x5120_S112x5120 (ix2 l o) =
      x (ix3 ⟨l.val / 16, by omega⟩ ⟨l.val % 16, by omega⟩ o) := by
  pointwise

/-- Joining the two token axes of the adapter ids, at an index. -/
theorem ids_apply (x : IVec S6x640 32) (r : Fin 3840) :
    shapeCast S3840x1 x shapeCasts_S6x640_S3840x1 (ix2 r 0) =
      x (ix2 ⟨r.val / 640, by omega⟩ ⟨r.val % 640, by omega⟩) := by
  pointwise

/-- The staged input is the input with its two token axes joined. -/
theorem V_main_v0 : V m c main_v0 = shapeCast S3840x16384 (m ((c.tc : Thread nD τ).loc main_arg0))
    shapeCasts_S6x640x16384_S3840x16384 := rfl

/-- The staged first adapter matrix has adapter and rank joined as rows. -/
theorem V_main_v2 : V m c main_v2 = shapeCast S112x16384
    (transpose S7x16x16384 [0, 2, 1] (m ((c.tc : Thread nD τ).loc main_arg3)) transposes_S7x16384x16_S7x16x16384_0_2_1)
    shapeCasts_S7x16x16384_S112x16384 := rfl

/-- The staged second adapter matrix has adapter and rank joined as rows. -/
theorem V_main_v3 : V m c main_v3 = shapeCast S112x5120 (m ((c.tc : Thread nD τ).loc main_arg4))
    shapeCasts_S7x16x5120_S112x5120 := rfl

/-- The staged adapter ids have their two token axes joined. -/
theorem V_main_v4 : V m c main_v4 = shapeCast S3840x1 (m ((c.tc : Thread nD τ).loc main_arg5))
    shapeCasts_S6x640_S3840x1 := rfl

/-- An input block at an index. -/
theorem x_read (t : Fin cfg0.N) (y : Fin 768) (i : Fin 2048) (h1 : t.val / 8 % 5 * 768 + y.val < 3840) (h2) :
    iblk m c 0 t (ix2 y i) = (m ((c.tc : Thread nD τ).loc main_arg0) : FVec Ideal S6x640x16384 .bf16)
      (ix3 ⟨(t.val / 8 % 5 * 768 + y.val) / 640, by omega⟩ ⟨(t.val / 8 % 5 * 768 + y.val) % 640, by omega⟩
        ⟨t.val % 8 * 2048 + i.val, h2⟩) := by
  have e : iblk m c 0 t (ix2 y i) = V m c main_v0 (ix2 ⟨t.val / 8 % 5 * 768 + y.val, h1⟩ ⟨t.val % 8 * 2048 + i.val, h2⟩) := by
    blk_ext [iblk, idx t]
  rw [e, V_main_v0]
  exact tokens_apply _ _ _

/-- A packed weight block at an index. -/
theorem w_read (t : Fin cfg0.N) (y : Fin 1024) (i : Fin 512) (h1 h2) :
    iblk m c 1 t (ix2 y i) = (m ((c.tc : Thread nD τ).loc main_arg1) : IVec S8192x5120 8)
      (ix2 ⟨(if t.val / 8 % 5 = 0 then t.val % 8 else 7) * 1024 + y.val, h1⟩
        ⟨t.val / 40 * 512 + i.val, h2⟩) := by
  blk_ext [iblk, V, idx t]

/-- A block of the first adapter matrix at an index. -/
theorem la_read (t : Fin cfg0.N) (y : Fin 112) (i : Fin 2048) (h2) :
    iblk m c 3 t (ix2 y i) = (m ((c.tc : Thread nD τ).loc main_arg3) : FVec Ideal S7x16384x16 .bf16)
      (ix3 ⟨y / 16, by omega⟩ ⟨(if t.val / 40 = 0 then t.val % 8 else 7) * 2048 + i.val, h2⟩
        ⟨y % 16, by omega⟩) := by
  have e : iblk m c 3 t (ix2 y i) = V m c main_v2 (ix2 y ⟨(if t.val / 40 = 0 then t.val % 8 else 7) * 2048 + i.val, h2⟩) := by
    blk_ext [iblk, idx t]
  rw [e, V_main_v2]
  exact la_apply _ _ _

/-- A block of scales at an index. -/
theorem s_read (t : Fin cfg0.N) (y : Fin 256) (i : Fin 512) (h2) :
    iblk m c 2 t (ix2 y i) = (m ((c.tc : Thread nD τ).loc main_arg2) : FVec Ideal S256x5120 .f32)
      (ix2 y ⟨t.val / 40 * 512 + i.val, h2⟩) := by
  blk_ext [iblk, V, idx t]

/-- A block of the second adapter matrix at an index. -/
theorem lb_read (t : Fin cfg0.N) (y : Fin 112) (i : Fin 512) (h2) :
    iblk m c 4 t (ix2 y i) = (m ((c.tc : Thread nD τ).loc main_arg4) : FVec Ideal S7x16x5120 .bf16)
      (ix3 ⟨y / 16, by omega⟩ ⟨y % 16, by omega⟩ ⟨t.val / 40 * 512 + i.val, h2⟩) := by
  have e : iblk m c 4 t (ix2 y i) = V m c main_v3 (ix2 y ⟨t.val / 40 * 512 + i.val, h2⟩) := by
    blk_ext [iblk, idx t]
  rw [e, V_main_v3]
  exact lb_apply _ _ _

/-- A block of adapter ids at an index. -/
theorem ids_read (t : Fin cfg0.N) (y : Fin 768) (h1 : t.val / 8 % 5 * 768 + y.val < 3840) :
    iblk m c 5 t (ix2 y 0) = (m ((c.tc : Thread nD τ).loc main_arg5) : IVec S6x640 32)
      (ix2 ⟨(t.val / 8 % 5 * 768 + y.val) / 640, by omega⟩ ⟨(t.val / 8 % 5 * 768 + y.val) % 640, by omega⟩) := by
  have e : iblk m c 5 t (ix2 y 0) = V m c main_v4 (ix2 ⟨t.val / 8 % 5 * 768 + y.val, h1⟩ 0) := by
    blk_ext [iblk, idx t]
  rw [e, V_main_v4]
  exact ids_apply _ _
end Cert.KernelIdeal.Body
-- ==== Proof.Reference.lean ====
/- What the reference computes, index by index. -/
module
public import proofs.«01_k».proof.Proof.Gen.ReferenceIdeal.Run
public import proofs.«01_k».proof.Proof.Codes
public import Idealize.ShloMosaic.Lib.Pointwise
@[expose] public section
set_option maxRecDepth 16384
noncomputable section
namespace Cert.ReferenceIdeal.Value
open Cert.ReferenceIdeal Cert.ReferenceIdeal.Gen
open Idealize.ShloMosaic Idealize.ShloMosaic.TcCoe Idealize.ShloMosaic.Tactic
open Idealize.SL.Sem

/-- The table at an array of codes, given the four bit tests. -/
def refTree (b8 b4 b2 b1 : IVec S8192x5120 1) : FVec Ideal S8192x5120 .bf16 :=
  select b8
    (select b4
      (select b2
        (select b1 (broadcastInDim S8192x5120 ![] bcast_S_S8192x5120 (constant S_ .bf16 0x3F80#16)) (broadcastInDim S8192x5120 ![] bcast_S_S8192x5120 (constant S_ .bf16 0x3F39#16)))
        (select b1 (broadcastInDim S8192x5120 ![] bcast_S_S8192x5120 (constant S_ .bf16 0x3F10#16)) (broadcastInDim S8192x5120 ![] bcast_S_S8192x5120 (constant S_ .bf16 0x3EE2#16))))
      (select b2
        (select b1 (broadcastInDim S8192x5120 ![] bcast_S_S8192x5120 (constant S_ .bf16 0x3EAD#16)) (broadcastInDim S8192x5120 ![] bcast_S_S8192x5120 (constant S_ .bf16 0x3E7C#16)))
        (select b1 (broadcastInDim S8192x5120 ![] bcast_S_S8192x5120 (constant S_ .bf16 0x3E25#16)) (broadcastInDim S8192x5120 ![] bcast_S_S8192x5120 (constant S_ .bf16 0x3DA3#16)))))
    (select b4
      (select b2
        (select b1 (broadcastInDim S8192x5120 ![] bcast_S_S8192x5120 (constant S_ .bf16 0x0000#16)) (broadcastInDim S8192x5120 ![] bcast_S_S8192x5120 (constant S_ .bf16 0xBDBA#16)))
        (select b1 (broadcastInDim S8192x5120 ![] bcast_S_S8192x5120 (constant S_ .bf16 0xBE3D#16)) (broadcastInDim S8192x5120 ![] bcast_S_S8192x5120 (constant S_ .bf16 0xBE92#16))))
      (select b2
        (select b1 (broadcastInDim S8192x5120 ![] bcast_S_S8192x5120 (constant S_ .bf16 0xBECA#16)) (broadcastInDim S8192x5120 ![] bcast_S_S8192x5120 (constant S_ .bf16 0xBF06#16)))
        (select b1 (broadcastInDim S8192x5120 ![] bcast_S_S8192x5120 (constant S_ .bf16 0xBF32#16)) (broadcastInDim S8192x5120 ![] bcast_S_S8192x5120 (constant S_ .bf16 0xBF80#16)))))

/-- The bit test of an array of codes. -/
abbrev refBit (codes : IVec S8192x5120 32) (b : BitVec 32) : IVec S8192x5120 1 :=
  cmpi .ne (andi codes (broadcastInDim S8192x5120 ![] bcast_S_S8192x5120 (constantI S_ 32 b)))
    (broadcastInDim S8192x5120 ![] bcast_S_S8192x5120 (constantI S_ 32 0#32))

/-- The weights of an array of codes: the table at the codes times the scale of each group of thirty-two rows. -/
def refWeight (codes : IVec S8192x5120 32) (a2 : FVec Ideal S256x5120 .f32) : FVec Ideal S8192x5120 .bf16 :=
  mulf (refTree (refBit codes 8#32) (refBit codes 4#32) (refBit codes 2#32) (refBit codes 1#32))
    (shapeCast _ (broadcastInDim S256x32x5120 ![0, 2] bcast_S256x5120_S256x32x5120_0_2 (truncf .bf16 a2 bitsLt_bf16_f32)) shapeCasts_S256x32x5120_S8192x5120)

/-- The low codes of the packed bytes. -/
def refLow (a1 : IVec S8192x5120 8) : IVec S8192x5120 32 :=
  andi (extui 32 a1 natLt_8_32) (broadcastInDim S8192x5120 ![] bcast_S_S8192x5120 (constantI S_ 32 15#32))

/-- The high codes of the packed bytes. -/
def refHigh (a1 : IVec S8192x5120 8) : IVec S8192x5120 32 :=
  Host.shrsi (extui 32 a1 natLt_8_32) (broadcastInDim S8192x5120 ![] bcast_S_S8192x5120 (constantI S_ 32 4#32))

/-- The two products of the even and the odd columns of the input with their weights. -/
def refBase (a0 : FVec Ideal S6x640x16384 .bf16) (a1 : IVec S8192x5120 8) (a2 : FVec Ideal S256x5120 .f32) :
    FVec Ideal S6x640x5120 .f32 :=
  addf (Host.dotGeneral dot_S6x640x8192_S8192x5120_S6x640x5120_2_0_01_1_n_n none (Host.slice S6x640x8192 ![0, 0, 0] ![1, 1, 2] a0 slicesBy_S6x640x16384_S6x640x8192_0s1_0s1_0s2) (refWeight (refLow a1) a2)) (Host.dotGeneral dot_S6x640x8192_S8192x5120_S6x640x5120_2_0_01_1_n_n none (Host.slice S6x640x8192 ![0, 0, 1] ![1, 1, 2] a0 slicesBy_S6x640x16384_S6x640x8192_0s1_0s1_1s2) (refWeight (refHigh a1) a2))

/-- The adapters' hidden activations, those of other adapters than the token's own replaced by zero. -/
def refHidden (a0 : FVec Ideal S6x640x16384 .bf16) (a3 : FVec Ideal S7x16384x16 .bf16) (a5 : IVec S6x640 32) :
    FVec Ideal S6x640x7x16 .bf16 :=
  select (broadcastInDim S6x640x7x16 ![0, 1, 2, 3] bcast_S6x640x7x1_S6x640x7x16_0_1_2_3 (broadcastInDim S6x640x7x1 ![0, 1, 2] bcast_S6x640x7_S6x640x7x1_0_1_2 (cmpi .eq (broadcastInDim S6x640x7 ![0, 1, 2] bcast_S6x640x1_S6x640x7_0_1_2 (broadcastInDim S6x640x1 ![0, 1] bcast_S6x640_S6x640x1_0_1 a5)) (broadcastInDim S6x640x7 ![0, 1, 2] bcast_S1x1x7_S6x640x7_0_1_2 (broadcastInDim S1x1x7 ![2] bcast_S7_S1x1x7_2 (iotaInDim S7 32 0)))))) (truncf .bf16 (Host.dotGeneral dot_S6x640x16384_S7x16384x16_S6x640x7x16_2_1_01_02_n_n none a0 a3) bitsLt_bf16_f32) (broadcastInDim S6x640x7x16 ![] bcast_S_S6x640x7x16 (constant S_ .bf16 0x0000#16))

/-- The reference's result as a function of its six arguments. -/
def refVal (a0 : FVec Ideal S6x640x16384 .bf16) (a1 : IVec S8192x5120 8) (a2 : FVec Ideal S256x5120 .f32)
    (a3 : FVec Ideal S7x16384x16 .bf16) (a4 : FVec Ideal S7x16x5120 .bf16) (a5 : IVec S6x640 32) :
    FVec Ideal S6x640x5120 .bf16 :=
  truncf .bf16 (addf (refBase a0 a1 a2) (mulf (broadcastInDim S6x640x5120 ![] bcast_S_S6x640x5120 (constant S_ .f32 0x40000000#32)) (Host.dotGeneral dot_S6x640x7x16_S7x16x5120_S6x640x5120_23_01_01_2_n_n none (refHidden a0 a3 a5) a4))) bitsLt_bf16_f32

/-- The result of the reference's run is that function of the arguments' contents. -/
theorem res_eq (m : (ℓ : Loc nD τ sig) → Buf (Elt Ideal) ℓ) (c : Dev nD) :
    res_out0 m c = refVal (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-- A weight: the table at its code times the scale of its group. -/
theorem refWeight_apply (codes : IVec S8192x5120 32) (a2 : FVec Ideal S256x5120 .f32) (i : Fin 8192) (o : Fin 5120) :
    refWeight codes a2 (ix2 i o) = Nf4.nf4 (codes (ix2 i o)) * a2 (ix2 ⟨i.val / 32, by omega⟩ o) := by
  pointwise [refWeight, refTree, refBit, Nf4.nf4, Nf4.entry]

/-- The low code at an index. -/
theorem refLow_apply (a1 : IVec S8192x5120 8) (i : Fin 8192) (o : Fin 5120) :
    refLow a1 (ix2 i o) = Nf4.low (a1 (ix2 i o)) := by
  pointwise [refLow, Nf4.low]

/-- The high code at an index. -/
theorem refHigh_apply (a1 : IVec S8192x5120 8) (i : Fin 8192) (o : Fin 5120) :
    refHigh a1 (ix2 i o) = Nf4.high (a1 (ix2 i o)) := by
  pointwise [refHigh, Nf4.high]

/-- The product with the dequantised weights at an index: the sum over the even columns plus the sum over the odd
    columns. -/
theorem refBase_apply (a0 : FVec Ideal S6x640x16384 .bf16) (a1 : IVec S8192x5120 8) (a2 : FVec Ideal S256x5120 .f32)
    (b : Fin 6) (s : Fin 640) (o : Fin 5120) :
    refBase a0 a1 a2 (ix3 b s o) =
      (∑ i : Fin 8192, a0 (ix3 b s ⟨2 * i.val, by omega⟩) *
        (Nf4.nf4 (Nf4.low (a1 (ix2 i o))) * a2 (ix2 ⟨i.val / 32, by omega⟩ o)))
      + ∑ i : Fin 8192, a0 (ix3 b s ⟨1 + 2 * i.val, by omega⟩) *
        (Nf4.nf4 (Nf4.high (a1 (ix2 i o))) * a2 (ix2 ⟨i.val / 32, by omega⟩ o)) := by
  have h : refBase a0 a1 a2 (ix3 b s o) =
      (∑ i : Fin 8192, a0 (ix3 b s ⟨2 * i.val, by omega⟩) * refWeight (refLow a1) a2 (ix2 i o))
      + ∑ i : Fin 8192, a0 (ix3 b s ⟨1 + 2 * i.val, by omega⟩) * refWeight (refHigh a1) a2 (ix2 i o) := by
    pointwise [refBase]
  simpa only [refWeight_apply, refLow_apply, refHigh_apply] using h

/-- The hidden activation of one adapter and rank, zero unless the adapter is the token's own. -/
theorem refHidden_apply (a0 : FVec Ideal S6x640x16384 .bf16) (a3 : FVec Ideal S7x16384x16 .bf16) (a5 : IVec S6x640 32)
    (b : Fin 6) (s : Fin 640) (a : Fin 7) (r : Fin 16) :
    refHidden a0 a3 a5 (ix4 b s a r) =
      Scalar.select (IntOp.cmpi CmpIPredicate.eq (a5 (ix2 b s)) (BitVec.ofNat 32 a.val))
        (∑ d : Fin 16384, a0 (ix3 b s d) * a3 (ix3 a d r)) 0 := by
  pointwise [refHidden]

/-- The reference's result at an index. -/
theorem refVal_apply (a0 : FVec Ideal S6x640x16384 .bf16) (a1 : IVec S8192x5120 8) (a2 : FVec Ideal S256x5120 .f32)
    (a3 : FVec Ideal S7x16384x16 .bf16) (a4 : FVec Ideal S7x16x5120 .bf16) (a5 : IVec S6x640 32)
    (b : Fin 6) (s : Fin 640) (o : Fin 5120) :
    refVal a0 a1 a2 a3 a4 a5 (ix3 b s o) =
      refBase a0 a1 a2 (ix3 b s o)
      + Ideal.ofBits .f32 1073741824#32 *
        ∑ a : Fin 7, ∑ r : Fin 16, refHidden a0 a3 a5 (ix4 b s a r) * a4 (ix3 a r o) := by
  pointwise [refVal]

end Cert.ReferenceIdeal.Value
end
-- ==== Proof.Equation.lean ====
/- The equation: every tile the kernel stores holds the reference's result at its place. -/
module
public import proofs.«01_k».proof.Proof.Run
public import proofs.«01_k».proof.Proof.Weights
public import proofs.«01_k».proof.Proof.Reads
public import proofs.«01_k».proof.Proof.Reference
@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL.Sem
open Cert.ReferenceIdeal.Value (refVal refBase refHidden refVal_apply refBase_apply refHidden_apply)

variable (m : (ℓ : Loc nD τ sig) → Buf (Elt Ideal) ℓ) (c : Dev nD)

/-- Two reads of a matrix at equal coordinates. -/
theorem read2 {A B : ℕ} {α : Type} (x : (⟨2, ![A, B]⟩ : Shape).Idx → α) {a a' : Fin A} {b b' : Fin B}
    (ha : a.val = a'.val) (hb : b.val = b'.val) : x (ix2 a b) = x (ix2 a' b') := by
  rw [Fin.ext ha, Fin.ext hb]

/-- Two reads of a rank-three array at equal coordinates. -/
theorem read3 {A B C : ℕ} {α : Type} (x : (⟨3, ![A, B, C]⟩ : Shape).Idx → α) {a a' : Fin A} {b b' : Fin B} {d d' : Fin C}
    (ha : a.val = a'.val) (hb : b.val = b'.val) (hd : d.val = d'.val) : x (ix3 a b d) = x (ix3 a' b' d') := by
  rw [Fin.ext ha, Fin.ext hb, Fin.ext hd]

/-- Below the grid's size, `pt` keeps the number. -/
theorem pt_of_lt {t : ℕ} (h : t < 400) : (pt t).val = t := Nat.mod_eq_of_lt h

/-- The six arguments, at the types the reference reads them. -/
abbrev A0 : FVec Ideal Cert.ReferenceIdeal.S6x640x16384 .bf16 := m ((c.tc : Thread nD τ).loc main_arg0)
abbrev A1 : IVec Cert.ReferenceIdeal.S8192x5120 8 := m ((c.tc : Thread nD τ).loc main_arg1)
abbrev A2 : FVec Ideal Cert.ReferenceIdeal.S256x5120 .f32 := m ((c.tc : Thread nD τ).loc main_arg2)
abbrev A3 : FVec Ideal Cert.ReferenceIdeal.S7x16384x16 .bf16 := m ((c.tc : Thread nD τ).loc main_arg3)
abbrev A4 : FVec Ideal Cert.ReferenceIdeal.S7x16x5120 .bf16 := m ((c.tc : Thread nD τ).loc main_arg4)
abbrev A5 : IVec Cert.ReferenceIdeal.S6x640 32 := m ((c.tc : Thread nD τ).loc main_arg5)

/-- The dequantised weight at row `r` and column `o` of the whole matrix. -/
def wAt (r : Fin 16384) (o : Fin 5120) : Ideal .bf16 :=
  Nf4.nf4 (Nf4.code (r.val % 2) (A1 m c (ix2 ⟨r.val / 2, by omega⟩ o))) * A2 m c (ix2 ⟨r.val / 64, by omega⟩ o)

/-- A sum over `n` pairs is the sum over the even numbers plus the sum over the odd numbers. -/
theorem sum_pairs (n : ℕ) (f : Fin (n * 2) → Ideal .f32) :
    ∑ r, f r = (∑ i : Fin n, f ⟨2 * i.val, by omega⟩) + ∑ i : Fin n, f ⟨1 + 2 * i.val, by omega⟩ := by
  rw [← Finset.sum_add_distrib, Fin.sum_univ_tiles n 2 rfl f]
  refine Finset.sum_congr rfl fun i _ => ?_
  rw [Fin.sum_univ_two]
  refine congrArg₂ (· + ·) (congrArg f (Fin.ext ?_)) (congrArg f (Fin.ext ?_))
  · simp only [Fin.val_zero]; omega
  · simp only [Fin.val_one]; omega

/-- A sum over all the input columns is the sum over the even ones plus the sum over the odd ones. -/
theorem sum_parity (f : Fin 16384 → Ideal .f32) :
    ∑ r : Fin 16384, f r =
      (∑ i : Fin 8192, f ⟨2 * i.val, by omega⟩) + ∑ i : Fin 8192, f ⟨1 + 2 * i.val, by omega⟩ :=
  sum_pairs 8192 f

/-- The reference's base product is one sum over all the input columns. -/
theorem refBase_sum (b : Fin 6) (s : Fin 640) (o : Fin 5120) :
    refBase (A0 m c) (A1 m c) (A2 m c) (ix3 b s o) =
      ∑ r : Fin 16384, A0 m c (ix3 b s r) * wAt m c r o := by
  rw [refBase_apply, sum_parity]
  refine congrArg₂ (· + ·) ?_ ?_
  · refine Finset.sum_congr rfl fun i _ => ?_
    have h : wAt m c ⟨2 * i.val, by omega⟩ o = Nf4.nf4 (Nf4.low (A1 m c (ix2 i o))) * A2 m c (ix2 ⟨i.val / 32, by omega⟩ o) := by
      unfold wAt
      rw [Nf4.code, if_pos (by simp only; omega)]
      congr 1
      · rw [read2 (A1 m c) (a' := i) (b' := o) (by simp only; omega) rfl]
      · exact read2 _ (by simp only; omega) rfl
    rw [h]
  · refine Finset.sum_congr rfl fun i _ => ?_
    have h : wAt m c ⟨1 + 2 * i.val, by omega⟩ o = Nf4.nf4 (Nf4.high (A1 m c (ix2 i o))) * A2 m c (ix2 ⟨i.val / 32, by omega⟩ o) := by
      unfold wAt
      rw [Nf4.code, if_neg (by simp only; omega)]
      congr 1
      · rw [read2 (A1 m c) (a' := i) (b' := o) (by simp only; omega) rfl]
      · exact read2 _ (by simp only; omega) rfl
    rw [h]

/-- The staged input at a point of the row tile `a` and the column tile `k`. -/
theorem blocks_x (t : ℕ) (ht : t < 400) (k : Fin 8) (hk : t % 8 = k.val) (R : Fin 3840) (y : Fin 768)
    (hR : R.val = t / 8 % 5 * 768 + y.val) (i : Fin 2048) :
    (blocks m c).x t (ix2 y i) =
      A0 m c (ix3 ⟨R.val / 640, by omega⟩ ⟨R.val % 640, by omega⟩ ⟨k.val * 2048 + i.val, by omega⟩) := by
  have hp := pt_of_lt ht
  refine (x_read m c (pt t) y i (by rw [hp]; omega) (by rw [hp]; omega)).trans ?_
  exact read3 _ (by simp only [hp, hR]) (by simp only [hp, hR]) (by simp only [hp, hk])

/-- The dequantised panel of column tile `n` holds the weights of the whole matrix. -/
theorem wdBlock_eq (n : ℕ) (hn : n < 10) (k : Fin 8) (i : Fin 2048) (q : Fin 512) :
    wdBlock (blocks m c) n k.val (ix2 i q) =
      wAt m c ⟨k.val * 2048 + i.val, by omega⟩ ⟨n * 512 + q.val, by omega⟩ := by
  have ht : n * 40 + k.val < 400 := by omega
  have hp := pt_of_lt ht
  have h0 : (n * 40 + k.val) / 8 % 5 = 0 := by omega
  have h1 : (n * 40 + k.val) % 8 = k.val := by omega
  have h2 : (n * 40 + k.val) / 40 = n := by omega
  rw [wdBlock_apply, wAt]
  congr 1
  · have e : (blocks m c).w (n * 40 + k.val) (ix2 ⟨i.val / 2, by omega⟩ q) =
        A1 m c (ix2 ⟨(k.val * 2048 + i.val) / 2, by omega⟩ ⟨n * 512 + q.val, by omega⟩) := by
      refine (w_read m c (pt (n * 40 + k.val)) ⟨i.val / 2, by omega⟩ q
        (by rw [hp, if_pos h0, h1]; simp only; omega) (by rw [hp, h2]; omega)).trans ?_
      exact read2 _ (by simp only [hp, h0, h1, if_true]; omega) (by simp only [hp, h2])
    rw [e]
    congr 2
    simp only; omega
  · refine (s_read m c (pt (n * 40 + k.val)) _ q (by rw [hp, h2]; omega)).trans ?_
    exact read2 _ (by simp only; omega) (by simp only [hp, h2])

/-- The accumulator at the end of a tile's eight steps is the reference's base product. -/
theorem acc_eq (t : ℕ) (ht : t < 400) (h7 : t % 8 = 7) (R : Fin 3840) (y : Fin 768)
    (hR : R.val = t / 8 % 5 * 768 + y.val) (q : Fin 512) (o : Fin 5120) (ho : o.val = t / 40 * 512 + q.val) :
    accP (blocks m c) (t / 40) (t - 7) 8 (ix2 y q) =
      refBase (A0 m c) (A1 m c) (A2 m c) (ix3 ⟨R.val / 640, by omega⟩ ⟨R.val % 640, by omega⟩ o) := by
  rw [accP_apply, refBase_sum, Finset.sum_range, Fin.sum_univ_tiles 8 2048 rfl]
  refine Finset.sum_congr rfl fun k _ => Finset.sum_congr rfl fun i _ => ?_
  rw [blocks_x m c (t - 7 + k.val) (by omega) k (by omega) R y (by omega) i,
    wdBlock_eq m c (t / 40) (by omega) k i q]
  congr 2
  exact Fin.ext ho.symm

/-- The hidden activations of a row tile are the reference's, before the choice of the adapter. -/
theorem h_eq (a : ℕ) (ha : a < 5) (R : Fin 3840) (y : Fin 768) (hR : R.val = a * 768 + y.val) (l : Fin 112) :
    hP (blocks m c) a 8 (ix2 y l) =
      ∑ d : Fin 16384, A0 m c (ix3 ⟨R.val / 640, by omega⟩ ⟨R.val % 640, by omega⟩ d)
        * A3 m c (ix3 ⟨l.val / 16, by omega⟩ d ⟨l.val % 16, by omega⟩) := by
  rw [hP_apply, Finset.sum_range, Fin.sum_univ_tiles 8 2048 rfl]
  refine Finset.sum_congr rfl fun k _ => Finset.sum_congr rfl fun i _ => ?_
  have ht : a * 8 + k.val < 400 := by omega
  have hp := pt_of_lt ht
  have h0 : (a * 8 + k.val) / 40 = 0 := by omega
  have h1 : (a * 8 + k.val) % 8 = k.val := by omega
  rw [blocks_x m c (a * 8 + k.val) ht k h1 R y (by omega) i]
  congr 1
  refine (la_read m c (pt (a * 8 + k.val)) l i (by rw [hp, if_pos h0, h1]; omega)).trans ?_
  exact read3 _ rfl (by simp only [hp, h0, h1, if_true]) rfl

/-- Equality of words, either way round. -/
theorem cmpi_eq_comm (a b : BitVec 32) : IntOp.cmpi CmpIPredicate.eq a b = IntOp.cmpi CmpIPredicate.eq b a := by
  simp only [IntOp.cmpi, eq_comm]
  try rw [Bool.beq_comm]

/-- A masked product is the product of the masked factor. -/
theorem select_mul (b : BitVec 1) (x w : Ideal .bf16) : Scalar.select b (x * w) 0 = Scalar.select b x 0 * w := by
  unfold Scalar.select
  split
  · rfl
  · exact (zero_mul _).symm

/-- A stored tile at an index is the reference's result at its place. -/
theorem out_eq (t : ℕ) (ht : t < 400) (h7 : t % 8 = 7) (R : Fin 3840) (y : Fin 768)
    (hR : R.val = t / 8 % 5 * 768 + y.val) (q : Fin 512) (o : Fin 5120) (ho : o.val = t / 40 * 512 + q.val) :
    outP (blocks m c) t (ix2 y q) =
      refVal (A0 m c) (A1 m c) (A2 m c) (A3 m c) (A4 m c) (A5 m c)
        (ix3 ⟨R.val / 640, by omega⟩ ⟨R.val % 640, by omega⟩ o) := by
  have hp := pt_of_lt ht
  rw [outP, pay14_apply, refVal_apply, acc_eq m c t ht h7 R y hR q o ho]
  refine congrArg (fun z => refBase (A0 m c) (A1 m c) (A2 m c) (ix3 ⟨R.val / 640, by omega⟩ ⟨R.val % 640, by omega⟩ o)
    + Ideal.ofBits FTy.f32 1073741824#32 * z) ?_
  refine (Fin.sum_univ_tiles 7 16 rfl _).trans ?_
  refine Finset.sum_congr rfl fun a _ => Finset.sum_congr rfl fun r _ => ?_
  have hid : (blocks m c).ids t (ix2 y 0) = A5 m c (ix2 ⟨R.val / 640, by omega⟩ ⟨R.val % 640, by omega⟩) := by
    refine (ids_read m c (pt t) y (by rw [hp]; omega)).trans ?_
    exact read2 _ (by simp only [hp, hR]) (by simp only [hp, hR])
  have hlb : (blocks m c).lb t (ix2 ⟨a.val * 16 + r.val, by omega⟩ q) = A4 m c (ix3 a r o) := by
    refine (lb_read m c (pt t) ⟨a.val * 16 + r.val, by omega⟩ q (by rw [hp]; omega)).trans ?_
    exact read3 _ (by simp only; omega) (by simp only; omega) (by simp only [hp, ho])
  have hh : tileOf (hP (blocks m c) (t / 8 % 5) 8) (ix2 y ⟨a.val * 16 + r.val, by omega⟩) =
      ∑ d : Fin 16384, A0 m c (ix3 ⟨R.val / 640, by omega⟩ ⟨R.val % 640, by omega⟩ d) * A3 m c (ix3 a d r) := by
    refine (tileOf_lt _ _ _ (show a.val * 16 + r.val < 112 by omega)).trans ?_
    refine (h_eq m c (t / 8 % 5) (by omega) R y hR ⟨a.val * 16 + r.val, by omega⟩).trans ?_
    refine Finset.sum_congr rfl fun d _ => ?_
    congr 1
    exact read3 _ (by simp only; omega) rfl (by simp only; omega)
  have hd : (a.val * 16 + r.val) / 16 = a.val := by omega
  rw [refHidden_apply, ← select_mul]
  simp only [hd]
  rw [hid, hlb, hh, cmpi_eq_comm]

end Cert.KernelIdeal.Body
end
-- ==== Proof.Value.lean ====
/- What the result holds after the run: the stored tiles cover the output array, so the array holds the reference's result with
   its two token axes joined, and the host's last reshape separates them again. -/
module
public import proofs.«01_k».proof.Proof.Equation
public import proofs.«01_k».proof.Proof.Quiet
public import Idealize.ShloMosaic.Lib.Claim
@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Idealize.SL.Sem
open Cert.ReferenceIdeal.Value (refVal)

variable (m : (ℓ : Loc nD τ sig) → Buf (Elt Ideal) ℓ) (c : Dev nD)

/-- The reference's result on the kernel's arguments. -/
abbrev goal : FVec Ideal Cert.ReferenceIdeal.S6x640x5120 .bf16 :=
  refVal (A0 m c) (A1 m c) (A2 m c) (A3 m c) (A4 m c) (A5 m c)

/-- The output array's contents: the reference's result with its token axes joined. -/
def joined : FVec Ideal S3840x5120 .bf16 := fun j =>
  goal m c (ix3 ⟨(j 0).val / 640, by have := (j 0).isLt; change (j 0).val < 3840 at this; omega⟩
    ⟨(j 0).val % 640, by omega⟩ (j 1))

/-- Every tile holds the joined result at its place, so the whole output array does. -/
theorem final : (dats m 0 c).arrAt 6 cfg0.N = joined m c := by
  refine (dats m 0 c).arrAt_eq_of_covers 6 (joined m c) (by decide +kernel) fun t hf y => ?_
  have h7 := (flush0_6 t).mp hf
  blk_simp
  rw [after_6]
  have hi := (idx t).2.2.2.2.2.2
  have hlt := lt_400 t
  rw [eq_ix2 y]
  refine (out_eq m c t.val hlt h7 (((cfg0.win 6).blk t).view.emb y 0) (y 0) ?_ (y 1) (((cfg0.win 6).blk t).view.emb y 1) ?_).trans ?_
  · blk_simp [idx t]
  · blk_simp [idx t]
  · rfl

/-- Separating joined token axes, at an index. -/
theorem split_apply (x : FVec Ideal S3840x5120 .bf16) (b : Fin 6) (s : Fin 640) (o : Fin 5120) :
    shapeCast S6x640x5120 x shapeCasts_S3840x5120_S6x640x5120 (ix3 b s o) = x (ix2 ⟨b.val * 640 + s.val, by omega⟩ o) := by
  pointwise

/-- The joined result at a joined token number. -/
theorem joined_apply (b : Fin 6) (s : Fin 640) (o : Fin 5120) :
    joined m c (ix2 ⟨b.val * 640 + s.val, by omega⟩ o) = goal m c (ix3 b s o) := by
  unfold joined
  exact read3 _ (by show (b.val * 640 + s.val) / 640 = b.val; omega)
    (by show (b.val * 640 + s.val) % 640 = s.val; omega) rfl

/-- Separating the token axes of the joined result gives the reference's result. -/
theorem split_joined : shapeCast S6x640x5120 (joined m c) shapeCasts_S3840x5120_S6x640x5120 = goal m c := by
  funext j
  rw [eq_ix3 j]
  exact (split_apply _ _ _ _).trans (joined_apply m c _ _ _)

/-- The host's last operation reshapes the output array into the returned buffer. -/
theorem after_v6 (W : Valuation τ sig (Elt Ideal)) :
    StableHlo.after [hostOps1].flatten W (Proc.devRef .tc main_v6) =
      shapeCast S6x640x5120 (W (Proc.devRef .tc main_v5)) shapeCasts_S3840x5120_S6x640x5120 := by
  simp only [hostOps1, List.flatten_cons, List.flatten_nil, List.append_nil, StableHlo.after_cons, StableHlo.after_nil]
  rw [StableHlo.reshape_result]
  rfl

/-- The returned buffer after the host's last reshape. -/
theorem tail_v6 : Pipeline.afterTail₀ cfgs (dats m) 0 (V0 m) [hostOps1] c main_v6 = goal m c := by
  unfold Pipeline.afterTail₀
  rw [after_v6]
  refine Eq.trans (congrArg (fun x => shapeCast S6x640x5120 x shapeCasts_S3840x5120_S6x640x5120) ?_) (split_joined m c)
  exact (Pipeline.withArrays_arr spec0 (by decide) c (V0 m c) (fun w => (dats m 0 c).arrAt w cfg0.N) 6).trans (final m c)

/-- The kernel's run returns the reference's result on its arguments, which end as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v6) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2.1 c⟩)
    (θ_run_and (Q₁ := fun r => ∀ c : Dev nD, r.2.mem ((c.tc : Thread nD τ).loc main_v6) = goal m c)
      ((θ_run defs _ _).mono (fun r h c =>
        ((h.1 c).2 main_v6 (Pipeline.mem_restRefs_of main_v6 (by decide) (by decide))).trans (tail_v6 m c)) (run m ρ))
      (frame m ρ))

end Cert.KernelIdeal.Body
end
-- ==== Proof.lean ====
/-
  The assembly: the frames of the two forms of the kernel and of the reference, that nothing was rewritten between the two forms,
  and that kernel and reference return equal arrays over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Quiet
public import proofs.«01_k».proof.Proof.BitsQuiet
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as compiled runs, its arguments unchanged, the counters at zero. -/
theorem frame_kernel : Cert.quiescent_Kernel := fun m g _ => Cert.Kernel.Body.frame m g

/-- The kernel over the extended reals runs, its arguments unchanged, the counters at zero. -/
theorem frame_ideal : Cert.quiescent_KernelIdeal := fun m g _ => Cert.KernelIdeal.Body.frame m g

/-- The reference runs, its arguments unchanged; it declares no semaphore. -/
theorem frame_reference : Cert.quiescent_ReferenceIdeal := fun m g _ =>
  (θ_run Cert.ReferenceIdeal.defs _ _).mono (fun _ h => ⟨fun c => (h c).2, Idealize.ShloMosaic.sem_eq_zero_of_no_sems (by decide) _⟩) (Cert.ReferenceIdeal.Value.run m g)

/-- Over the extended reals the kernel and the reference return equal arrays from equal arguments. -/
theorem algebraic : Cert.algebraic_KernelIdeal_ReferenceIdeal := fun m g m' g' _ hm =>
  ⟨fun c => Cert.KernelIdeal.Body.goal m c, Cert.KernelIdeal.Body.run_value m g,
    (θ_run Cert.ReferenceIdeal.defs _ _).mono (fun _ h c => ⟨(h c).1.trans ((Cert.ReferenceIdeal.Value.res_eq m' c).trans (by
      obtain ⟨h0, h1, h2, h3, h4, h5⟩ := hm c
      rw [h0, h1, h2, h3, h4, h5])), (h c).2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
